-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sparse (m : (ℓ : Loc Cert.Sparse.nD Cert.Sparse.τ Cert.Sparse.sig) → Buf (Elt Bits) ℓ) : Prop :=
  True

def Pre_SparseIdeal (m : (ℓ : Loc Cert.SparseIdeal.nD Cert.SparseIdeal.τ Cert.SparseIdeal.sig) → Buf (Elt Ideal) ℓ) : Prop :=
  True

def Pre_SparseIdeal_tables_hold [hPre_tables_hold : Cert.Pre_tables_hold.Facts] (m : (ℓ : Loc Cert.SparseIdeal.nD Cert.SparseIdeal.τ Cert.SparseIdeal.sig) → Buf (Elt Ideal) ℓ) : Prop :=
  ∀ c : Dev Cert.SparseIdeal.nD,
    (Cert.Pre_tables_hold.fn (F := Ideal) (m ((c.tc : Thread Cert.SparseIdeal.nD Cert.SparseIdeal.τ).loc Cert.SparseIdeal.main_arg0)) (m ((c.tc : Thread Cert.SparseIdeal.nD Cert.SparseIdeal.τ).loc Cert.SparseIdeal.main_arg1)) (m ((c.tc : Thread Cert.SparseIdeal.nD Cert.SparseIdeal.τ).loc Cert.SparseIdeal.main_arg2)) (m ((c.tc : Thread Cert.SparseIdeal.nD Cert.SparseIdeal.τ).loc Cert.SparseIdeal.main_arg3)) (m ((c.tc : Thread Cert.SparseIdeal.nD Cert.SparseIdeal.τ).loc Cert.SparseIdeal.main_arg4)) (m ((c.tc : Thread Cert.SparseIdeal.nD Cert.SparseIdeal.τ).loc Cert.SparseIdeal.main_arg5)) (m ((c.tc : Thread Cert.SparseIdeal.nD Cert.SparseIdeal.τ).loc Cert.SparseIdeal.main_arg6))) = (fun _ => 1#1)

def Pre_SparseReferenceIdeal (m : (ℓ : Loc Cert.SparseReferenceIdeal.nD Cert.SparseReferenceIdeal.τ Cert.SparseReferenceIdeal.sig) → Buf (Elt Ideal) ℓ) : Prop :=
  True

def Pre_SparseReferenceIdeal_tables_hold [hPre_tables_hold : Cert.Pre_tables_hold.Facts] (m : (ℓ : Loc Cert.SparseReferenceIdeal.nD Cert.SparseReferenceIdeal.τ Cert.SparseReferenceIdeal.sig) → Buf (Elt Ideal) ℓ) : Prop :=
  ∀ c : Dev Cert.SparseReferenceIdeal.nD,
    (Cert.Pre_tables_hold.fn (F := Ideal) (m ((c.tc : Thread Cert.SparseReferenceIdeal.nD Cert.SparseReferenceIdeal.τ).loc Cert.SparseReferenceIdeal.main_arg0)) (m ((c.tc : Thread Cert.SparseReferenceIdeal.nD Cert.SparseReferenceIdeal.τ).loc Cert.SparseReferenceIdeal.main_arg1)) (m ((c.tc : Thread Cert.SparseReferenceIdeal.nD Cert.SparseReferenceIdeal.τ).loc Cert.SparseReferenceIdeal.main_arg2)) (m ((c.tc : Thread Cert.SparseReferenceIdeal.nD Cert.SparseReferenceIdeal.τ).loc Cert.SparseReferenceIdeal.main_arg3)) (m ((c.tc : Thread Cert.SparseReferenceIdeal.nD Cert.SparseReferenceIdeal.τ).loc Cert.SparseReferenceIdeal.main_arg4)) (m ((c.tc : Thread Cert.SparseReferenceIdeal.nD Cert.SparseReferenceIdeal.τ).loc Cert.SparseReferenceIdeal.main_arg5)) (m ((c.tc : Thread Cert.SparseReferenceIdeal.nD Cert.SparseReferenceIdeal.τ).loc Cert.SparseReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sparse [hSparse : Cert.Sparse.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3)
      ∧ r.2.mem ((c.tc : Thread Cert.Sparse.nD Cert.Sparse.τ).loc Cert.Sparse.main_arg4) = m ((c.tc : Thread Cert.Sparse.nD Cert.Sparse.τ).loc Cert.Sparse.main_arg4)
      ∧ r.2.mem ((c.tc : Thread Cert.Sparse.nD Cert.Sparse.τ).loc Cert.Sparse.main_arg5) = m ((c.tc : Thread Cert.Sparse.nD Cert.Sparse.τ).loc Cert.Sparse.main_arg5)
      ∧ r.2.mem ((c.tc : Thread Cert.Sparse.nD Cert.Sparse.τ).loc Cert.Sparse.main_arg6) = m ((c.tc : Thread Cert.Sparse.nD Cert.Sparse.τ).loc Cert.Sparse.main_arg6))
      ∧ r.2.sem = fun _ => 0)

def quiescent_SparseIdeal [hSparseIdeal : Cert.SparseIdeal.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
      ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
      ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5)
      ∧ r.2.mem ((c.tc : Thread Cert.SparseIdeal.nD Cert.SparseIdeal.τ).loc Cert.SparseIdeal.main_arg6) = m ((c.tc : Thread Cert.SparseIdeal.nD Cert.SparseIdeal.τ).loc Cert.SparseIdeal.main_arg6))
      ∧ r.2.sem = fun _ => 0)

def quiescent_SparseIdeal_pre_tables_hold [hSparseIdeal : Cert.SparseIdeal.Facts] [hPre_tables_hold : Cert.Pre_tables_hold.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal_tables_hold m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
      ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
      ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5)
      ∧ r.2.mem ((c.tc : Thread Cert.SparseIdeal.nD Cert.SparseIdeal.τ).loc Cert.SparseIdeal.main_arg6) = m ((c.tc : Thread Cert.SparseIdeal.nD Cert.SparseIdeal.τ).loc Cert.SparseIdeal.main_arg6))
      ∧ r.2.sem = fun _ => 0)

def quiescent_SparseReferenceIdeal [hSparseReferenceIdeal : Cert.SparseReferenceIdeal.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2)
      ∧ r.2.mem ((c.tc : Thread Cert.SparseReferenceIdeal.nD Cert.SparseReferenceIdeal.τ).loc Cert.SparseReferenceIdeal.main_arg3) = m ((c.tc : Thread Cert.SparseReferenceIdeal.nD Cert.SparseReferenceIdeal.τ).loc Cert.SparseReferenceIdeal.main_arg3)
      ∧ r.2.mem ((c.tc : Thread Cert.SparseReferenceIdeal.nD Cert.SparseReferenceIdeal.τ).loc Cert.SparseReferenceIdeal.main_arg4) = m ((c.tc : Thread Cert.SparseReferenceIdeal.nD Cert.SparseReferenceIdeal.τ).loc Cert.SparseReferenceIdeal.main_arg4)
      ∧ r.2.mem ((c.tc : Thread Cert.SparseReferenceIdeal.nD Cert.SparseReferenceIdeal.τ).loc Cert.SparseReferenceIdeal.main_arg5) = m ((c.tc : Thread Cert.SparseReferenceIdeal.nD Cert.SparseReferenceIdeal.τ).loc Cert.SparseReferenceIdeal.main_arg5)
      ∧ r.2.mem ((c.tc : Thread Cert.SparseReferenceIdeal.nD Cert.SparseReferenceIdeal.τ).loc Cert.SparseReferenceIdeal.main_arg6) = m ((c.tc : Thread Cert.SparseReferenceIdeal.nD Cert.SparseReferenceIdeal.τ).loc Cert.SparseReferenceIdeal.main_arg6))
      ∧ r.2.sem = fun _ => 0)

def quiescent_SparseReferenceIdeal_pre_tables_hold [hSparseReferenceIdeal : Cert.SparseReferenceIdeal.Facts] [hPre_tables_hold : Cert.Pre_tables_hold.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal_tables_hold m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2)
      ∧ r.2.mem ((c.tc : Thread Cert.SparseReferenceIdeal.nD Cert.SparseReferenceIdeal.τ).loc Cert.SparseReferenceIdeal.main_arg3) = m ((c.tc : Thread Cert.SparseReferenceIdeal.nD Cert.SparseReferenceIdeal.τ).loc Cert.SparseReferenceIdeal.main_arg3)
      ∧ r.2.mem ((c.tc : Thread Cert.SparseReferenceIdeal.nD Cert.SparseReferenceIdeal.τ).loc Cert.SparseReferenceIdeal.main_arg4) = m ((c.tc : Thread Cert.SparseReferenceIdeal.nD Cert.SparseReferenceIdeal.τ).loc Cert.SparseReferenceIdeal.main_arg4)
      ∧ r.2.mem ((c.tc : Thread Cert.SparseReferenceIdeal.nD Cert.SparseReferenceIdeal.τ).loc Cert.SparseReferenceIdeal.main_arg5) = m ((c.tc : Thread Cert.SparseReferenceIdeal.nD Cert.SparseReferenceIdeal.τ).loc Cert.SparseReferenceIdeal.main_arg5)
      ∧ r.2.mem ((c.tc : Thread Cert.SparseReferenceIdeal.nD Cert.SparseReferenceIdeal.τ).loc Cert.SparseReferenceIdeal.main_arg6) = m ((c.tc : Thread Cert.SparseReferenceIdeal.nD Cert.SparseReferenceIdeal.τ).loc Cert.SparseReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sparse_SparseIdeal : Prop :=
  True

def algebraic_SparseIdeal_SparseReferenceIdeal_pre_tables_hold [hSparseIdeal : Cert.SparseIdeal.Facts] [hSparseReferenceIdeal : Cert.SparseReferenceIdeal.Facts] [hPre_tables_hold : Cert.Pre_tables_hold.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SparseReferenceIdeal.nD Cert.SparseReferenceIdeal.τ Cert.SparseReferenceIdeal.sig) → Buf (Elt Ideal) ℓ) (g' : Dev Cert.SparseReferenceIdeal.nD → PrngReg), Pre_SparseIdeal_tables_hold m →
    (∀ c : Dev Cert.SparseIdeal.nD,
      m' ((c.tc : Thread Cert.SparseReferenceIdeal.nD Cert.SparseReferenceIdeal.τ).loc Cert.SparseReferenceIdeal.main_arg0) = m ((c.tc : Thread Cert.SparseIdeal.nD Cert.SparseIdeal.τ).loc Cert.SparseIdeal.main_arg0)
      ∧ m' ((c.tc : Thread Cert.SparseReferenceIdeal.nD Cert.SparseReferenceIdeal.τ).loc Cert.SparseReferenceIdeal.main_arg1) = m ((c.tc : Thread Cert.SparseIdeal.nD Cert.SparseIdeal.τ).loc Cert.SparseIdeal.main_arg1)
      ∧ m' ((c.tc : Thread Cert.SparseReferenceIdeal.nD Cert.SparseReferenceIdeal.τ).loc Cert.SparseReferenceIdeal.main_arg2) = m ((c.tc : Thread Cert.SparseIdeal.nD Cert.SparseIdeal.τ).loc Cert.SparseIdeal.main_arg2)
      ∧ m' ((c.tc : Thread Cert.SparseReferenceIdeal.nD Cert.SparseReferenceIdeal.τ).loc Cert.SparseReferenceIdeal.main_arg3) = m ((c.tc : Thread Cert.SparseIdeal.nD Cert.SparseIdeal.τ).loc Cert.SparseIdeal.main_arg3)
      ∧ m' ((c.tc : Thread Cert.SparseReferenceIdeal.nD Cert.SparseReferenceIdeal.τ).loc Cert.SparseReferenceIdeal.main_arg4) = m ((c.tc : Thread Cert.SparseIdeal.nD Cert.SparseIdeal.τ).loc Cert.SparseIdeal.main_arg4)
      ∧ m' ((c.tc : Thread Cert.SparseReferenceIdeal.nD Cert.SparseReferenceIdeal.τ).loc Cert.SparseReferenceIdeal.main_arg5) = m ((c.tc : Thread Cert.SparseIdeal.nD Cert.SparseIdeal.τ).loc Cert.SparseIdeal.main_arg5)
      ∧ m' ((c.tc : Thread Cert.SparseReferenceIdeal.nD Cert.SparseReferenceIdeal.τ).loc Cert.SparseReferenceIdeal.main_arg6) = m ((c.tc : Thread Cert.SparseIdeal.nD Cert.SparseIdeal.τ).loc Cert.SparseIdeal.main_arg6)) →
    ∃ (v0 : (c : Dev Cert.SparseIdeal.nD) → Buf (Elt Ideal) ((c.tc : Thread Cert.SparseIdeal.nD Cert.SparseIdeal.τ).loc Cert.SparseIdeal.main_v3)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v3) = v0 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
          ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
          ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
          ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5)
          ∧ r.2.mem ((c.tc : Thread Cert.SparseIdeal.nD Cert.SparseIdeal.τ).loc Cert.SparseIdeal.main_arg6) = m ((c.tc : Thread Cert.SparseIdeal.nD Cert.SparseIdeal.τ).loc Cert.SparseIdeal.main_arg6))
      ∧ θ_run (Cert.SparseReferenceIdeal.defs (F := Ideal)) (onTc (τ := Cert.SparseReferenceIdeal.τ) (Cert.SparseReferenceIdeal.main (F := Ideal))) ⟨m', fun _ => 0, g'⟩ (fun r => ∀ c : Dev Cert.SparseReferenceIdeal.nD,
          r.2.mem ((c.tc : Thread Cert.SparseReferenceIdeal.nD Cert.SparseReferenceIdeal.τ).loc Cert.SparseReferenceIdeal.main_v49) = v0 c
          ∧ r.2.mem ((c.tc : Thread Cert.SparseReferenceIdeal.nD Cert.SparseReferenceIdeal.τ).loc Cert.SparseReferenceIdeal.main_arg0) = m' ((c.tc : Thread Cert.SparseReferenceIdeal.nD Cert.SparseReferenceIdeal.τ).loc Cert.SparseReferenceIdeal.main_arg0)
          ∧ r.2.mem ((c.tc : Thread Cert.SparseReferenceIdeal.nD Cert.SparseReferenceIdeal.τ).loc Cert.SparseReferenceIdeal.main_arg1) = m' ((c.tc : Thread Cert.SparseReferenceIdeal.nD Cert.SparseReferenceIdeal.τ).loc Cert.SparseReferenceIdeal.main_arg1)
          ∧ r.2.mem ((c.tc : Thread Cert.SparseReferenceIdeal.nD Cert.SparseReferenceIdeal.τ).loc Cert.SparseReferenceIdeal.main_arg2) = m' ((c.tc : Thread Cert.SparseReferenceIdeal.nD Cert.SparseReferenceIdeal.τ).loc Cert.SparseReferenceIdeal.main_arg2)
          ∧ r.2.mem ((c.tc : Thread Cert.SparseReferenceIdeal.nD Cert.SparseReferenceIdeal.τ).loc Cert.SparseReferenceIdeal.main_arg3) = m' ((c.tc : Thread Cert.SparseReferenceIdeal.nD Cert.SparseReferenceIdeal.τ).loc Cert.SparseReferenceIdeal.main_arg3)
          ∧ r.2.mem ((c.tc : Thread Cert.SparseReferenceIdeal.nD Cert.SparseReferenceIdeal.τ).loc Cert.SparseReferenceIdeal.main_arg4) = m' ((c.tc : Thread Cert.SparseReferenceIdeal.nD Cert.SparseReferenceIdeal.τ).loc Cert.SparseReferenceIdeal.main_arg4)
          ∧ r.2.mem ((c.tc : Thread Cert.SparseReferenceIdeal.nD Cert.SparseReferenceIdeal.τ).loc Cert.SparseReferenceIdeal.main_arg5) = m' ((c.tc : Thread Cert.SparseReferenceIdeal.nD Cert.SparseReferenceIdeal.τ).loc Cert.SparseReferenceIdeal.main_arg5)
          ∧ r.2.mem ((c.tc : Thread Cert.SparseReferenceIdeal.nD Cert.SparseReferenceIdeal.τ).loc Cert.SparseReferenceIdeal.main_arg6) = m' ((c.tc : Thread Cert.SparseReferenceIdeal.nD Cert.SparseReferenceIdeal.τ).loc Cert.SparseReferenceIdeal.main_arg6))

def Claim : Prop :=
  ∃ (hKernel : Cert.Kernel.Facts) (hKernelIdeal : Cert.KernelIdeal.Facts) (hReferenceIdeal : Cert.ReferenceIdeal.Facts) (hSparse : Cert.Sparse.Facts) (hSparseIdeal : Cert.SparseIdeal.Facts) (hSparseReferenceIdeal : Cert.SparseReferenceIdeal.Facts) (hPre_tables_hold : Cert.Pre_tables_hold.Facts),
    quiescent_Kernel (hKernel := hKernel)
    ∧ quiescent_KernelIdeal (hKernelIdeal := hKernelIdeal)
    ∧ quiescent_ReferenceIdeal (hReferenceIdeal := hReferenceIdeal)
    ∧ quiescent_Sparse (hSparse := hSparse)
    ∧ quiescent_SparseIdeal (hSparseIdeal := hSparseIdeal)
    ∧ quiescent_SparseIdeal_pre_tables_hold (hSparseIdeal := hSparseIdeal) (hPre_tables_hold := hPre_tables_hold)
    ∧ quiescent_SparseReferenceIdeal (hSparseReferenceIdeal := hSparseReferenceIdeal)
    ∧ quiescent_SparseReferenceIdeal_pre_tables_hold (hSparseReferenceIdeal := hSparseReferenceIdeal) (hPre_tables_hold := hPre_tables_hold)
    ∧ preserves_Kernel_KernelIdeal
    ∧ algebraic_KernelIdeal_ReferenceIdeal (hKernelIdeal := hKernelIdeal) (hReferenceIdeal := hReferenceIdeal)
    ∧ preserves_Sparse_SparseIdeal
    ∧ algebraic_SparseIdeal_SparseReferenceIdeal_pre_tables_hold (hSparseIdeal := hSparseIdeal) (hSparseReferenceIdeal := hSparseReferenceIdeal) (hPre_tables_hold := hPre_tables_hold)
-- ==== Pre_tables_hold.lean ====
abbrev S512 : Shape := ⟨1, ![512]⟩
abbrev S256x1x5120 : Shape := ⟨3, ![256, 1, 5120]⟩
abbrev S2293760 : Shape := ⟨1, ![2293760]⟩
abbrev S1310720 : Shape := ⟨1, ![1310720]⟩
abbrev S256x6912 : Shape := ⟨2, ![256, 6912]⟩
abbrev S5121 : Shape := ⟨1, ![5121]⟩
abbrev S276480 : Shape := ⟨1, ![276480]⟩
abbrev S32x16 : Shape := ⟨2, ![32, 16]⟩
abbrev S32x1 : Shape := ⟨2, ![32, 1]⟩
abbrev S32 : Shape := ⟨1, ![32]⟩
abbrev S_ : Shape := ⟨0, ![]⟩

class Facts : Prop where
  shapeCasts_S512_S32x16 : S512.ShapeCasts S32x16
  slices_S32x16_S32x1_0_0 : S32x16.Slices ![0, 0] S32x1
  shapeCasts_S32x1_S32 : S32x1.ShapeCasts S32
  bcast_S_S32 : S_.BroadcastsInDim S32 (![] : Fin 0 → Fin S32.rank)

variable [Facts]

def fn {F : FTy → Type} [FloatOps F] (main_arg0 : IVec S512 32) (main_arg1 : FVec F S256x1x5120 .bf16) (main_arg2 : IVec S2293760 32) (main_arg3 : IVec S1310720 32) (main_arg4 : FVec F S256x6912 .f32) (main_arg5 : IVec S5121 32) (main_arg6 : IVec S276480 32) : IVec S32 1 :=
  let main_v0 : IVec S32x16 32 := shapeCast S32x16 main_arg0 shapeCasts_S512_S32x16
  let main_v1 : IVec S32x1 32 := (extractStridedSlice S32x1 ![0, 0] · slices_S32x16_S32x1_0_0) main_v0
  let main_v2 : IVec S32 32 := shapeCast S32 main_v1 shapeCasts_S32x1_S32
  let main_c : IVec S_ 32 := constantI S_ 32 0#32
  let main_v3 : IVec S32 32 := broadcastInDim S32 ![] bcast_S_S32 main_c
  let main_v4 : IVec S32 1 := cmpi .eq main_v2 main_v3
  main_v4
-- ==== Kernel.lean ====
abbrev S256x1x5120 : Shape := ⟨3, ![256, 1, 5120]⟩
abbrev S2560x6912 : Shape := ⟨2, ![2560, 6912]⟩
abbrev S320x6912 : Shape := ⟨2, ![320, 6912]⟩
abbrev S256x5120 : Shape := ⟨2, ![256, 5120]⟩
abbrev S256x6912 : Shape := ⟨2, ![256, 6912]⟩
abbrev S2560x256 : Shape := ⟨2, ![2560, 256]⟩
abbrev S320x256 : Shape := ⟨2, ![320, 256]⟩
abbrev S256x256 : Shape := ⟨2, ![256, 256]⟩
abbrev S512x256 : Shape := ⟨2, ![512, 256]⟩
abbrev S512x1x256 : Shape := ⟨3, ![512, 1, 256]⟩
abbrev S512x2x256 : Shape := ⟨3, ![512, 2, 256]⟩
abbrev S1024x256 : Shape := ⟨2, ![1024, 256]⟩
abbrev S64x256 : Shape := ⟨2, ![64, 256]⟩
abbrev S64x16x256 : Shape := ⟨3, ![64, 16, 256]⟩
abbrev S64x1x256 : Shape := ⟨3, ![64, 1, 256]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S256x1x5120, .bf16⟩
  | .hbm, ⟨1, _⟩ => ⟨S2560x6912, .i8⟩
  | .hbm, ⟨2, _⟩ => ⟨S320x6912, .bf16⟩
  | .hbm, ⟨3, _⟩ => ⟨S320x6912, .i8⟩
  | .hbm, ⟨4, _⟩ => ⟨S256x5120, .bf16⟩
  | .hbm, ⟨5, _⟩ => ⟨S256x6912, .f32⟩
  | .local _ .vmem, ⟨0, _⟩ => ⟨S256x5120, .bf16⟩
  | .local _ .vmem, ⟨1, _⟩ => ⟨S2560x256, .i8⟩
  | .local _ .vmem, ⟨2, _⟩ => ⟨S2560x256, .i8⟩
  | .local _ .vmem, ⟨3, _⟩ => ⟨S320x256, .bf16⟩
  | .local _ .vmem, ⟨4, _⟩ => ⟨S320x256, .bf16⟩
  | .local _ .vmem, ⟨5, _⟩ => ⟨S320x256, .i8⟩
  | .local _ .vmem, ⟨6, _⟩ => ⟨S320x256, .i8⟩
  | .local _ .vmem, ⟨7, _⟩ => ⟨S256x256, .f32⟩
  | .local _ .vmem, ⟨8, _⟩ => ⟨S256x256, .f32⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x1x5120 : Shape := ⟨3, ![256, 1, 5120]⟩
abbrev S2560x6912 : Shape := ⟨2, ![2560, 6912]⟩
abbrev S320x6912 : Shape := ⟨2, ![320, 6912]⟩
abbrev S_ : Shape := ⟨0, ![]⟩
abbrev S320x8x6912 : Shape := ⟨3, ![320, 8, 6912]⟩
abbrev S320x1x6912 : Shape := ⟨3, ![320, 1, 6912]⟩
abbrev S256x1x2560 : Shape := ⟨3, ![256, 1, 2560]⟩
abbrev S256x1x6912 : Shape := ⟨3, ![256, 1, 6912]⟩
abbrev S256x6912 : Shape := ⟨2, ![256, 6912]⟩

abbrev nBuf : Space → Nat
  | .hbm => 37
  | .vmem => 0
  | .smem => 0
  | _ => 0

abbrev bufTy : (tb : Table) → Fin (tcTables nBuf tb) → BufTy
  | .hbm, ⟨0, _⟩ => ⟨S256x1x5120, .bf16⟩
  | .hbm, ⟨1, _⟩ => ⟨S2560x6912, .i8⟩
  | .hbm, ⟨2, _⟩ => ⟨S320x6912, .bf16⟩
  | .hbm, ⟨3, _⟩ => ⟨S320x6912, .i8⟩
  | .hbm, ⟨4, _⟩ => ⟨S2560x6912, .i32⟩
  | .hbm, ⟨5, _⟩ => ⟨S_, .i32⟩
  | .hbm, ⟨6, _⟩ => ⟨S2560x6912, .i32⟩
  | .hbm, ⟨7, _⟩ => ⟨S2560x6912, .i32⟩
  | .hbm, ⟨8, _⟩ => ⟨S_, .i32⟩
  | .hbm, ⟨9, _⟩ => ⟨S2560x6912, .i32⟩
  | .hbm, ⟨10, _⟩ => ⟨S2560x6912, .i32⟩
  | .hbm, ⟨11, _⟩ => ⟨S320x6912, .i32⟩
  | .hbm, ⟨12, _⟩ => ⟨S320x6912, .bf16⟩
  | .hbm, ⟨13, _⟩ => ⟨S2560x6912, .bf16⟩
  | .hbm, ⟨14, _⟩ => ⟨S320x8x6912, .bf16⟩
  | .hbm, ⟨15, _⟩ => ⟨S320x1x6912, .bf16⟩
  | .hbm, ⟨16, _⟩ => ⟨S320x8x6912, .bf16⟩
  | .hbm, ⟨17, _⟩ => ⟨S320x8x6912, .bf16⟩
  | .hbm, ⟨18, _⟩ => ⟨S320x1x6912, .bf16⟩
  | .hbm, ⟨19, _⟩ => ⟨S320x8x6912, .bf16⟩
  | .hbm, ⟨20, _⟩ => ⟨S320x8x6912, .bf16⟩
  | .hbm, ⟨21, _⟩ => ⟨S2560x6912, .bf16⟩
  | .hbm, ⟨22, _⟩ => ⟨S2560x6912, .bf16⟩
  | .hbm, ⟨23, _⟩ => ⟨S320x8x6912, .bf16⟩
  | .hbm, ⟨24, _⟩ => ⟨S320x1x6912, .bf16⟩
  | .hbm, ⟨25, _⟩ => ⟨S320x8x6912, .bf16⟩
  | .hbm, ⟨26, _⟩ => ⟨S320x8x6912, .bf16⟩
  | .hbm, ⟨27, _⟩ => ⟨S320x1x6912, .bf16⟩
  | .hbm, ⟨28, _⟩ => ⟨S320x8x6912, .bf16⟩
  | .hbm, ⟨29, _⟩ => ⟨S320x8x6912, .bf16⟩
  | .hbm, ⟨30, _⟩ => ⟨S2560x6912, .bf16⟩
  | .hbm, ⟨31, _⟩ => ⟨S256x1x2560, .bf16⟩
  | .hbm, ⟨32, _⟩ => ⟨S256x1x6912, .f32⟩
  | .hbm, ⟨33, _⟩ => ⟨S256x1x2560, .bf16⟩
  | .hbm, ⟨34, _⟩ => ⟨S256x1x6912, .f32⟩
  | .hbm, ⟨35, _⟩ => ⟨S256x1x6912, .f32⟩
  | .hbm, ⟨36, _⟩ => ⟨S256x6912, .f32⟩
  | _, _ => ⟨S256x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Sparse.lean ====
abbrev S512 : Shape := ⟨1, ![512]⟩
abbrev S256x1x5120 : Shape := ⟨3, ![256, 1, 5120]⟩
abbrev S2293760 : Shape := ⟨1, ![2293760]⟩
abbrev S1310720 : Shape := ⟨1, ![1310720]⟩
abbrev S256x6912 : Shape := ⟨2, ![256, 6912]⟩
abbrev S5121 : Shape := ⟨1, ![5121]⟩
abbrev S276480 : Shape := ⟨1, ![276480]⟩
abbrev S256x5120 : Shape := ⟨2, ![256, 5120]⟩
abbrev S160x14x8x128 : Shape := ⟨4, ![160, 14, 8, 128]⟩
abbrev S160x4x2x8x128 : Shape := ⟨5, ![160, 4, 2, 8, 128]⟩
abbrev S160x1x8x128 : Shape := ⟨4, ![160, 1, 8, 128]⟩
abbrev S160x1x2x8x128 : Shape := ⟨5, ![160, 1, 2, 8, 128]⟩
abbrev S256x256 : Shape := ⟨2, ![256, 256]⟩
abbrev S5120x256 : Shape := ⟨2, ![5120, 256]⟩
abbrev S1024 : Shape := ⟨1, ![1024]⟩
abbrev S_ : Shape := ⟨0, ![]⟩
abbrev S1 : Shape := ⟨1, ![1]⟩
abbrev S1x1x8x128 : Shape := ⟨4, ![1, 1, 8, 128]⟩
abbrev S8x128 : Shape := ⟨2, ![8, 128]⟩
abbrev S1x1x1x8x128 : Shape := ⟨5, ![1, 1, 1, 8, 128]⟩
abbrev S8x128x1 : Shape := ⟨3, ![8, 128, 1]⟩
abbrev S16x128 : Shape := ⟨2, ![16, 128]⟩
abbrev S16x256 : Shape := ⟨2, ![16, 256]⟩
abbrev S256x1024 : Shape := ⟨2, ![256, 1024]⟩
abbrev S1024x256 : Shape := ⟨2, ![1024, 256]⟩
abbrev S1x256 : Shape := ⟨2, ![1, 256]⟩

abbrev nBuf : Space → Nat
  | .hbm => 11
  | .vmem => 10
  | .smem => 3
  | _ => 0

abbrev bufTy : (tb : Table) → Fin (tcTables nBuf tb) → BufTy
  | .hbm, ⟨0, _⟩ => ⟨S512, .i32⟩
  | .hbm, ⟨1, _⟩ => ⟨S256x1x5120, .bf16⟩
  | .hbm, ⟨2, _⟩ => ⟨S2293760, .i32⟩
  | .hbm, ⟨3, _⟩ => ⟨S1310720, .i32⟩
  | .hbm, ⟨4, _⟩ => ⟨S256x6912, .f32⟩
  | .hbm, ⟨5, _⟩ => ⟨S5121, .i32⟩
  | .hbm, ⟨6, _⟩ => ⟨S276480, .i32⟩
  | .hbm, ⟨7, _⟩ => ⟨S256x5120, .bf16⟩
  | .hbm, ⟨8, _⟩ => ⟨S160x14x8x128, .i32⟩
  | .hbm, ⟨9, _⟩ => ⟨S160x4x2x8x128, .i32⟩
  | .hbm, ⟨10, _⟩ => ⟨S256x6912, .bf16⟩
  | .local _ .vmem, ⟨0, _⟩ => ⟨S256x5120, .bf16⟩
  | .local _ .vmem, ⟨1, _⟩ => ⟨S160x1x8x128, .i32⟩
  | .local _ .vmem, ⟨2, _⟩ => ⟨S160x1x8x128, .i32⟩
  | .local _ .vmem, ⟨3, _⟩ => ⟨S160x1x2x8x128, .i32⟩
  | .local _ .vmem, ⟨4, _⟩ => ⟨S160x1x2x8x128, .i32⟩
  | .local _ .vmem, ⟨5, _⟩ => ⟨S256x256, .f32⟩
  | .local _ .vmem, ⟨6, _⟩ => ⟨S256x256, .f32⟩
  | .local _ .vmem, ⟨7, _⟩ => ⟨S256x256, .bf16⟩
  | .local _ .vmem, ⟨8, _⟩ => ⟨S256x256, .bf16⟩
  | .local _ .vmem, ⟨9, _⟩ => ⟨S5120x256, .f32⟩
  | .local _ .smem, ⟨0, _⟩ => ⟨S512, .i32⟩
  | .local _ .smem, ⟨1, _⟩ => ⟨S5121, .i32⟩
  | .local _ .smem, ⟨2, _⟩ => ⟨S1024, .i32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_scratch1 : Ref sig .tc := ⟨.smem, 1, rfl⟩
abbrev cc0_scratch2 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![27], ![false]⟩

@[reducible] def k0_t1_loop : Scf.Loop 32 :=
  let c0_i32_6 : BitVec 32 := 0#32
  let c276480_i32 : BitVec 32 := 276480#32
  let v76 : BitVec 32 := Scalar.addi c0_i32_6 c276480_i32
  let c1_i32_7 : BitVec 32 := 1#32
  ⟨c0_i32_6, v76, c1_i32_7⟩
def k0_cond3 (k0_t1 : Fin k0_t1_loop.trips) : BitVec 1 :=
  let c0_i32_6 : BitVec 32 := 0#32
  let c1_i32_7 : BitVec 32 := 1#32
  let arg14 : BitVec 32 := Scf.iv c0_i32_6 c1_i32_7 k0_t1
  let c1024_i32 : BitVec 32 := 1024#32
  let c0_i32_34 : BitVec 32 := 0#32
  let v111 : BitVec 1 := Scalar.cmpi .eq c1024_i32 c0_i32_34
  let c1_i32_35 : BitVec 32 := 1#32
  let v112 : BitVec 32 := Scalar.select v111 c1_i32_35 c1024_i32
  let v113 : BitVec 32 := Scalar.remsi arg14 v112
  let c0_i32_37 : BitVec 32 := 0#32
  let v115 : BitVec 1 := Scalar.cmpi .slt v113 c0_i32_37
  let c0_i32_38 : BitVec 32 := 0#32
  let v116 : BitVec 1 := Scalar.cmpi .slt v112 c0_i32_38
  let v117 : BitVec 1 := Scalar.xori v115 v116
  let c0_i32_36 : BitVec 32 := 0#32
  let v114 : BitVec 1 := Scalar.cmpi .ne v113 c0_i32_36
  let v118 : BitVec 1 := Scalar.andi v117 v114
  let v119 : BitVec 32 := Scalar.addi v113 v112
  let v120 : BitVec 32 := Scalar.select v118 v119 v113
  let c0_i32_39 : BitVec 32 := 0#32
  let v121 : BitVec 1 := Scalar.cmpi .eq v120 c0_i32_39
  let v122 : BitVec 32 := Scalar.extui v121
  let c0_i32_40 : BitVec 32 := 0#32
  let v123 : BitVec 1 := Scalar.cmpi .ne v122 c0_i32_40
  v123

def k0_mult1 (k0_t1 : Fin k0_t1_loop.trips) : BitVec 32 :=
  let c0_i32_6 : BitVec 32 := 0#32
  let c1_i32_7 : BitVec 32 := 1#32
  let arg14 : BitVec 32 := Scf.iv c0_i32_6 c1_i32_7 k0_t1
  let c0_i32_54 : BitVec 32 := 0#32
  let v147 : BitVec 1 := Scalar.cmpi .sgt arg14 c0_i32_54
  let v148 : BitVec 32 := Scalar.extui v147
  let c0_i32_55 : BitVec 32 := 0#32
  let v149 : BitVec 1 := Scalar.cmpi .slt arg14 c0_i32_55
  let v150 : BitVec 32 := Scalar.extui v149
  let v151 : BitVec 32 := Scalar.subi v148 v150
  let c1024_i32_53 : BitVec 32 := 1024#32
  let c0_i32_56 : BitVec 32 := 0#32
  let v152 : BitVec 1 := Scalar.cmpi .sgt c1024_i32_53 c0_i32_56
  let v153 : BitVec 32 := Scalar.extui v152
  let c0_i32_57 : BitVec 32 := 0#32
  let v154 : BitVec 1 := Scalar.cmpi .slt c1024_i32_53 c0_i32_57
  let v155 : BitVec 32 := Scalar.extui v154
  let v156 : BitVec 32 := Scalar.subi v153 v155
  let v157 : BitVec 1 := Scalar.cmpi .ne v151 v156
  let v158 : BitVec 32 := Scalar.remsi arg14 c1024_i32_53
  let c0_i32_58 : BitVec 32 := 0#32
  let v159 : BitVec 1 := Scalar.cmpi .ne v158 c0_i32_58
  let v160 : BitVec 1 := Scalar.andi v157 v159
  let v146 : BitVec 32 := Scalar.divsi arg14 c1024_i32_53
  let c1_i32_59 : BitVec 32 := 1#32
  let v161 : BitVec 32 := Scalar.subi v146 c1_i32_59
  let v162 : BitVec 32 := Scalar.select v160 v161 v146
  let c1024_i32_60 : BitVec 32 := 1024#32
  let v163 : BitVec 32 := Scalar.muli v162 c1024_i32_60
  v163
def k0_off1 (k0_t1 : Fin k0_t1_loop.trips) : Fin 1 → Nat :=
  let c0_i32_6 : BitVec 32 := 0#32
  let c1_i32_7 : BitVec 32 := 1#32
  let arg14 : BitVec 32 := Scf.iv c0_i32_6 c1_i32_7 k0_t1
  let c0_i32_54 : BitVec 32 := 0#32
  let v147 : BitVec 1 := Scalar.cmpi .sgt arg14 c0_i32_54
  let v148 : BitVec 32 := Scalar.extui v147
  let c0_i32_55 : BitVec 32 := 0#32
  let v149 : BitVec 1 := Scalar.cmpi .slt arg14 c0_i32_55
  let v150 : BitVec 32 := Scalar.extui v149
  let v151 : BitVec 32 := Scalar.subi v148 v150
  let c1024_i32_53 : BitVec 32 := 1024#32
  let c0_i32_56 : BitVec 32 := 0#32
  let v152 : BitVec 1 := Scalar.cmpi .sgt c1024_i32_53 c0_i32_56
  let v153 : BitVec 32 := Scalar.extui v152
  let c0_i32_57 : BitVec 32 := 0#32
  let v154 : BitVec 1 := Scalar.cmpi .slt c1024_i32_53 c0_i32_57
  let v155 : BitVec 32 := Scalar.extui v154
  let v156 : BitVec 32 := Scalar.subi v153 v155
  let v157 : BitVec 1 := Scalar.cmpi .ne v151 v156
  let v158 : BitVec 32 := Scalar.remsi arg14 c1024_i32_53
  let c0_i32_58 : BitVec 32 := 0#32
  let v159 : BitVec 1 := Scalar.cmpi .ne v158 c0_i32_58
  let v160 : BitVec 1 := Scalar.andi v157 v159
  let v146 : BitVec 32 := Scalar.divsi arg14 c1024_i32_53
  let c1_i32_59 : BitVec 32 := 1#32
  let v161 : BitVec 32 := Scalar.subi v146 c1_i32_59
  let v162 : BitVec 32 := Scalar.select v160 v161 v146
  let c1024_i32_60 : BitVec 32 := 1024#32
  let v163 : BitVec 32 := Scalar.muli v162 c1024_i32_60
  let v164 : BitVec 32 := v163
  ![v164.toNat]
@[reducible] def k0_t2_loop : Scf.Loop 32 :=
  let c0_i32_41 : BitVec 32 := 0#32
  let c5120_i32 : BitVec 32 := 5120#32
  let v124 : BitVec 32 := Scalar.addi c0_i32_41 c5120_i32
  let c1_i32_42 : BitVec 32 := 1#32
  ⟨c0_i32_41, v124, c1_i32_42⟩
def k0_off2 (arg17 : BitVec 32) : Fin 1 → Nat :=
  let c5119_i32_53 : BitVec 32 := 5119#32
  let v147 : BitVec 32 := Scalar.minsi arg17 c5119_i32_53
  let c1_i32_54 : BitVec 32 := 1#32
  let v148 : BitVec 32 := Scalar.addi v147 c1_i32_54
  let v149 : Index := Scalar.indexCast v148
  ![v149.toNat]
def k0_cond2 (v0 : BitVec 32) (v1 : BitVec 32) (v2 : BitVec 32) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v19 : BitVec 32) (v20 : BitVec 32) (v21 : BitVec 32) (v22 : BitVec 32) (v23 : BitVec 32) (v24 : BitVec 32) (v25 : BitVec 32) (v26 : BitVec 32) (v27 : BitVec 32) (v28 : BitVec 32) (v29 : BitVec 32) (v30 : BitVec 32) (v31 : BitVec 32) : BitVec 1 :=
  let v32 : BitVec 32 := Scalar.ori v0 v1
  let v33 : BitVec 32 := Scalar.ori v32 v2
  let v34 : BitVec 32 := Scalar.ori v33 v3
  let v35 : BitVec 32 := Scalar.ori v34 v4
  let v36 : BitVec 32 := Scalar.ori v35 v5
  let v37 : BitVec 32 := Scalar.ori v36 v6
  let v38 : BitVec 32 := Scalar.ori v37 v7
  let v39 : BitVec 32 := Scalar.ori v38 v8
  let v40 : BitVec 32 := Scalar.ori v39 v9
  let v41 : BitVec 32 := Scalar.ori v40 v10
  let v42 : BitVec 32 := Scalar.ori v41 v11
  let v43 : BitVec 32 := Scalar.ori v42 v12
  let v44 : BitVec 32 := Scalar.ori v43 v13
  let v45 : BitVec 32 := Scalar.ori v44 v14
  let v46 : BitVec 32 := Scalar.ori v45 v15
  let v47 : BitVec 32 := Scalar.ori v46 v16
  let v48 : BitVec 32 := Scalar.ori v47 v17
  let v49 : BitVec 32 := Scalar.ori v48 v18
  let v50 : BitVec 32 := Scalar.ori v49 v19
  let v51 : BitVec 32 := Scalar.ori v50 v20
  let v52 : BitVec 32 := Scalar.ori v51 v21
  let v53 : BitVec 32 := Scalar.ori v52 v22
  let v54 : BitVec 32 := Scalar.ori v53 v23
  let v55 : BitVec 32 := Scalar.ori v54 v24
  let v56 : BitVec 32 := Scalar.ori v55 v25
  let v57 : BitVec 32 := Scalar.ori v56 v26
  let v58 : BitVec 32 := Scalar.ori v57 v27
  let v59 : BitVec 32 := Scalar.ori v58 v28
  let v60 : BitVec 32 := Scalar.ori v59 v29
  let v61 : BitVec 32 := Scalar.ori v60 v30
  let v62 : BitVec 32 := Scalar.ori v61 v31
  let c0_i32_1 : BitVec 32 := 0#32
  let v68 : BitVec 1 := Scalar.cmpi .ne v62 c0_i32_1
  let v69 : BitVec 32 := Scalar.extui v68
  let c0_i32_2 : BitVec 32 := 0#32
  let v70 : BitVec 1 := Scalar.cmpi .ne v69 c0_i32_2
  v70

def k0_chk1 (v0 : BitVec 32) (v1 : BitVec 32) (v2 : BitVec 32) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v19 : BitVec 32) (v20 : BitVec 32) (v21 : BitVec 32) (v22 : BitVec 32) (v23 : BitVec 32) (v24 : BitVec 32) (v25 : BitVec 32) (v26 : BitVec 32) (v27 : BitVec 32) (v28 : BitVec 32) (v29 : BitVec 32) (v30 : BitVec 32) (v31 : BitVec 32) (arg17 : BitVec 32) : Prop :=
  (∀ (k0_h2 : k0_cond2 v0 v1 v2 v3 v4 v5 v6 v7 v8 v9 v10 v11 v12 v13 v14 v15 v16 v17 v18 v19 v20 v21 v22 v23 v24 v25 v26 v27 v28 v29 v30 v31 = 1#1), ∀ a, (k0_off2 arg17) a + S1.size a ≤ S5121.size a)
theorem k0_off2_inb : ∀ (v0 : BitVec 32) (v1 : BitVec 32) (v2 : BitVec 32) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v19 : BitVec 32) (v20 : BitVec 32) (v21 : BitVec 32) (v22 : BitVec 32) (v23 : BitVec 32) (v24 : BitVec 32) (v25 : BitVec 32) (v26 : BitVec 32) (v27 : BitVec 32) (v28 : BitVec 32) (v29 : BitVec 32) (v30 : BitVec 32) (v31 : BitVec 32) (arg17 : BitVec 32) (k0_hw1 : k0_chk1 v0 v1 v2 v3 v4 v5 v6 v7 v8 v9 v10 v11 v12 v13 v14 v15 v16 v17 v18 v19 v20 v21 v22 v23 v24 v25 v26 v27 v28 v29 v30 v31 arg17), ∀ (k0_h2 : k0_cond2 v0 v1 v2 v3 v4 v5 v6 v7 v8 v9 v10 v11 v12 v13 v14 v15 v16 v17 v18 v19 v20 v21 v22 v23 v24 v25 v26 v27 v28 v29 v30 v31 = 1#1), ∀ a, (k0_off2 arg17) a + S1.size a ≤ S5121.size a := fun v0 v1 v2 v3 v4 v5 v6 v7 v8 v9 v10 v11 v12 v13 v14 v15 v16 v17 v18 v19 v20 v21 v22 v23 v24 v25 v26 v27 v28 v29 v30 v31 arg17 k0_hw1 k0_h2 => k0_hw1 k0_h2

def k0_off3 (k0_t1 : Fin k0_t1_loop.trips) : Fin 1 → Nat :=
  let c0_i32_6 : BitVec 32 := 0#32
  let c1_i32_7 : BitVec 32 := 1#32
  let arg14 : BitVec 32 := Scf.iv c0_i32_6 c1_i32_7 k0_t1
  let c1024_i32_43 : BitVec 32 := 1024#32
  let c0_i32_44 : BitVec 32 := 0#32
  let v126 : BitVec 1 := Scalar.cmpi .eq c1024_i32_43 c0_i32_44
  let c1_i32_45 : BitVec 32 := 1#32
  let v127 : BitVec 32 := Scalar.select v126 c1_i32_45 c1024_i32_43
  let v128 : BitVec 32 := Scalar.remsi arg14 v127
  let c0_i32_47 : BitVec 32 := 0#32
  let v130 : BitVec 1 := Scalar.cmpi .slt v128 c0_i32_47
  let c0_i32_48 : BitVec 32 := 0#32
  let v131 : BitVec 1 := Scalar.cmpi .slt v127 c0_i32_48
  let v132 : BitVec 1 := Scalar.xori v130 v131
  let c0_i32_46 : BitVec 32 := 0#32
  let v129 : BitVec 1 := Scalar.cmpi .ne v128 c0_i32_46
  let v133 : BitVec 1 := Scalar.andi v132 v129
  let v134 : BitVec 32 := Scalar.addi v128 v127
  let v135 : BitVec 32 := Scalar.select v133 v134 v128
  let v136 : Index := Scalar.indexCast v135
  ![v136.toNat]
def k0_off4 (v125 : BitVec 32) : Fin 2 → Nat :=
  let v151 : Index := Scalar.indexCast v125
  let c0_54 : Index := 0#32
  ![v151.toNat, 0]
def k0_cond4 (i : grid0.Coords) (v137 : BitVec 32) : BitVec 1 :=
  let c16_i32_49 : BitVec 32 := 16#32
  let v138 : BitVec 32 := Scalar.shrui v137 c16_i32_49
  let arg0 : BitVec 32 := BitVec.ofNat 32 (i 0).val
  let c256_i32 : BitVec 32 := 256#32
  let v139 : BitVec 32 := Scalar.muli arg0 c256_i32
  let v140 : BitVec 32 := Scalar.subi v138 v139
  let c0_i32_50 : BitVec 32 := 0#32
  let v141 : BitVec 1 := Scalar.cmpi .sge v140 c0_i32_50
  let c256_i32_51 : BitVec 32 := 256#32
  let v142 : BitVec 1 := Scalar.cmpi .slt v140 c256_i32_51
  let v143 : BitVec 1 := Scalar.andi v141 v142
  let v144 : BitVec 32 := Scalar.extui v143
  let c0_i32_52 : BitVec 32 := 0#32
  let v145 : BitVec 1 := Scalar.cmpi .ne v144 c0_i32_52
  v145

def k0_chk2 (i : grid0.Coords) (v0 : BitVec 32) (v1 : BitVec 32) (v2 : BitVec 32) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v19 : BitVec 32) (v20 : BitVec 32) (v21 : BitVec 32) (v22 : BitVec 32) (v23 : BitVec 32) (v24 : BitVec 32) (v25 : BitVec 32) (v26 : BitVec 32) (v27 : BitVec 32) (v28 : BitVec 32) (v29 : BitVec 32) (v30 : BitVec 32) (v31 : BitVec 32) (v125 : BitVec 32) (v137 : BitVec 32) : Prop :=
  (∀ (k0_h2 : k0_cond2 v0 v1 v2 v3 v4 v5 v6 v7 v8 v9 v10 v11 v12 v13 v14 v15 v16 v17 v18 v19 v20 v21 v22 v23 v24 v25 v26 v27 v28 v29 v30 v31 = 1#1), ∀ (k0_h4 : k0_cond4 i v137 = 1#1), ∀ a, (k0_off4 v125) a + S1x256.size a ≤ S5120x256.size a)
theorem k0_off4_inb : ∀ (i : grid0.Coords) (v0 : BitVec 32) (v1 : BitVec 32) (v2 : BitVec 32) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v19 : BitVec 32) (v20 : BitVec 32) (v21 : BitVec 32) (v22 : BitVec 32) (v23 : BitVec 32) (v24 : BitVec 32) (v25 : BitVec 32) (v26 : BitVec 32) (v27 : BitVec 32) (v28 : BitVec 32) (v29 : BitVec 32) (v30 : BitVec 32) (v31 : BitVec 32) (v125 : BitVec 32) (v137 : BitVec 32) (k0_hw2 : k0_chk2 i v0 v1 v2 v3 v4 v5 v6 v7 v8 v9 v10 v11 v12 v13 v14 v15 v16 v17 v18 v19 v20 v21 v22 v23 v24 v25 v26 v27 v28 v29 v30 v31 v125 v137), ∀ (k0_h2 : k0_cond2 v0 v1 v2 v3 v4 v5 v6 v7 v8 v9 v10 v11 v12 v13 v14 v15 v16 v17 v18 v19 v20 v21 v22 v23 v24 v25 v26 v27 v28 v29 v30 v31 = 1#1), ∀ (k0_h4 : k0_cond4 i v137 = 1#1), ∀ a, (k0_off4 v125) a + S1x256.size a ≤ S5120x256.size a := fun i v0 v1 v2 v3 v4 v5 v6 v7 v8 v9 v10 v11 v12 v13 v14 v15 v16 v17 v18 v19 v20 v21 v22 v23 v24 v25 v26 v27 v28 v29 v30 v31 v125 v137 k0_hw2 k0_h2 k0_h4 => k0_hw2 k0_h2 k0_h4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x1x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1x2x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SparseReferenceIdeal.lean ====
abbrev S512 : Shape := ⟨1, ![512]⟩
abbrev S256x1x5120 : Shape := ⟨3, ![256, 1, 5120]⟩
abbrev S2293760 : Shape := ⟨1, ![2293760]⟩
abbrev S1310720 : Shape := ⟨1, ![1310720]⟩
abbrev S256x6912 : Shape := ⟨2, ![256, 6912]⟩
abbrev S5121 : Shape := ⟨1, ![5121]⟩
abbrev S276480 : Shape := ⟨1, ![276480]⟩
abbrev S160x14x1x8x128 : Shape := ⟨5, ![160, 14, 1, 8, 128]⟩
abbrev S4 : Shape := ⟨1, ![4]⟩
abbrev S1x1x4x1x1 : Shape := ⟨5, ![1, 1, 4, 1, 1]⟩
abbrev S_ : Shape := ⟨0, ![]⟩
abbrev S160x14x4x8x128 : Shape := ⟨5, ![160, 14, 4, 8, 128]⟩
abbrev S160x8x14x4x128 : Shape := ⟨5, ![160, 8, 14, 4, 128]⟩
abbrev S160x1x8x7168 : Shape := ⟨4, ![160, 1, 8, 7168]⟩
abbrev S160x1x8x6912 : Shape := ⟨4, ![160, 1, 8, 6912]⟩
abbrev S160 : Shape := ⟨1, ![160]⟩
abbrev S160x1x1x1 : Shape := ⟨4, ![160, 1, 1, 1]⟩
abbrev S2 : Shape := ⟨1, ![2]⟩
abbrev S1x2x1x1 : Shape := ⟨4, ![1, 2, 1, 1]⟩
abbrev S8 : Shape := ⟨1, ![8]⟩
abbrev S1x1x8x1 : Shape := ⟨4, ![1, 1, 8, 1]⟩
abbrev S6912 : Shape := ⟨1, ![6912]⟩
abbrev S1x1x1x6912 : Shape := ⟨4, ![1, 1, 1, 6912]⟩
abbrev S160x1x1x6912 : Shape := ⟨4, ![160, 1, 1, 6912]⟩
abbrev S160x2x1x6912 : Shape := ⟨4, ![160, 2, 1, 6912]⟩
abbrev S160x2x8x6912 : Shape := ⟨4, ![160, 2, 8, 6912]⟩
abbrev S160x2x8x6912x1 : Shape := ⟨5, ![160, 2, 8, 6912, 1]⟩
abbrev S160x2x8x6912x2 : Shape := ⟨5, ![160, 2, 8, 6912, 2]⟩
abbrev S160x2x8x2x6912 : Shape := ⟨5, ![160, 2, 8, 2, 6912]⟩
abbrev S5120x6912 : Shape := ⟨2, ![5120, 6912]⟩
abbrev S256x1x6912 : Shape := ⟨3, ![256, 1, 6912]⟩

abbrev nBuf : Space → Nat
  | .hbm => 65
  | .vmem => 0
  | .smem => 0
  | _ => 0

abbrev bufTy : (tb : Table) → Fin (tcTables nBuf tb) → BufTy
  | .hbm, ⟨0, _⟩ => ⟨S512, .i32⟩
  | .hbm, ⟨1, _⟩ => ⟨S256x1x5120, .bf16⟩
  | .hbm, ⟨2, _⟩ => ⟨S2293760, .i32⟩
  | .hbm, ⟨3, _⟩ => ⟨S1310720, .i32⟩
  | .hbm, ⟨4, _⟩ => ⟨S256x6912, .f32⟩
  | .hbm, ⟨5, _⟩ => ⟨S5121, .i32⟩
  | .hbm, ⟨6, _⟩ => ⟨S276480, .i32⟩
  | .hbm, ⟨7, _⟩ => ⟨S160x14x1x8x128, .i32⟩
  | .hbm, ⟨8, _⟩ => ⟨S4, .i32⟩
  | .hbm, ⟨9, _⟩ => ⟨S1x1x4x1x1, .i32⟩
  | .hbm, ⟨10, _⟩ => ⟨S_, .i32⟩
  | .hbm, ⟨11, _⟩ => ⟨S1x1x4x1x1, .i32⟩
  | .hbm, ⟨12, _⟩ => ⟨S1x1x4x1x1, .i32⟩
  | .hbm, ⟨13, _⟩ => ⟨S160x14x4x8x128, .i32⟩
  | .hbm, ⟨14, _⟩ => ⟨S160x14x4x8x128, .i32⟩
  | .hbm, ⟨15, _⟩ => ⟨S160x14x4x8x128, .i32⟩
  | .hbm, ⟨16, _⟩ => ⟨S_, .i32⟩
  | .hbm, ⟨17, _⟩ => ⟨S160x14x4x8x128, .i32⟩
  | .hbm, ⟨18, _⟩ => ⟨S160x14x4x8x128, .i32⟩
  | .hbm, ⟨19, _⟩ => ⟨S160x8x14x4x128, .i32⟩
  | .hbm, ⟨20, _⟩ => ⟨S160x1x8x7168, .i32⟩
  | .hbm, ⟨21, _⟩ => ⟨S160x1x8x6912, .i32⟩
  | .hbm, ⟨22, _⟩ => ⟨S160, .i32⟩
  | .hbm, ⟨23, _⟩ => ⟨S160x1x1x1, .i32⟩
  | .hbm, ⟨24, _⟩ => ⟨S2, .i32⟩
  | .hbm, ⟨25, _⟩ => ⟨S1x2x1x1, .i32⟩
  | .hbm, ⟨26, _⟩ => ⟨S8, .i32⟩
  | .hbm, ⟨27, _⟩ => ⟨S1x1x8x1, .i32⟩
  | .hbm, ⟨28, _⟩ => ⟨S6912, .i32⟩
  | .hbm, ⟨29, _⟩ => ⟨S_, .i32⟩
  | .hbm, ⟨30, _⟩ => ⟨S6912, .i32⟩
  | .hbm, ⟨31, _⟩ => ⟨S6912, .i32⟩
  | .hbm, ⟨32, _⟩ => ⟨S1x1x1x6912, .i32⟩
  | .hbm, ⟨33, _⟩ => ⟨S_, .i32⟩
  | .hbm, ⟨34, _⟩ => ⟨S160x1x1x1, .i32⟩
  | .hbm, ⟨35, _⟩ => ⟨S160x1x1x1, .i32⟩
  | .hbm, ⟨36, _⟩ => ⟨S160x1x1x6912, .i32⟩
  | .hbm, ⟨37, _⟩ => ⟨S160x1x1x6912, .i32⟩
  | .hbm, ⟨38, _⟩ => ⟨S160x1x1x6912, .i32⟩
  | .hbm, ⟨39, _⟩ => ⟨S_, .i32⟩
  | .hbm, ⟨40, _⟩ => ⟨S160x1x1x6912, .i32⟩
  | .hbm, ⟨41, _⟩ => ⟨S160x1x1x6912, .i32⟩
  | .hbm, ⟨42, _⟩ => ⟨S160x2x1x6912, .i32⟩
  | .hbm, ⟨43, _⟩ => ⟨S160x2x1x6912, .i32⟩
  | .hbm, ⟨44, _⟩ => ⟨S160x2x1x6912, .i32⟩
  | .hbm, ⟨45, _⟩ => ⟨S_, .i32⟩
  | .hbm, ⟨46, _⟩ => ⟨S160x2x1x6912, .i32⟩
  | .hbm, ⟨47, _⟩ => ⟨S160x2x1x6912, .i32⟩
  | .hbm, ⟨48, _⟩ => ⟨S160x2x8x6912, .i32⟩
  | .hbm, ⟨49, _⟩ => ⟨S160x2x8x6912, .i32⟩
  | .hbm, ⟨50, _⟩ => ⟨S160x2x8x6912, .i32⟩
  | .hbm, ⟨51, _⟩ => ⟨S_, .i32⟩
  | .hbm, ⟨52, _⟩ => ⟨S160x2x8x6912, .i32⟩
  | .hbm, ⟨53, _⟩ => ⟨S160x2x8x6912, .i32⟩
  | .hbm, ⟨54, _⟩ => ⟨S160x2x8x6912, .i32⟩
  | .hbm, ⟨55, _⟩ => ⟨S160x2x8x6912, .i32⟩
  | .hbm, ⟨56, _⟩ => ⟨S160x2x8x6912x1, .i32⟩
  | .hbm, ⟨57, _⟩ => ⟨S160x2x8x6912, .i32⟩
  | .hbm, ⟨58, _⟩ => ⟨S160x2x8x6912x2, .bf16⟩
  | .hbm, ⟨59, _⟩ => ⟨S160x2x8x2x6912, .bf16⟩
  | .hbm, ⟨60, _⟩ => ⟨S5120x6912, .bf16⟩
  | .hbm, ⟨61, _⟩ => ⟨S256x1x6912, .f32⟩
  | .hbm, ⟨62, _⟩ => ⟨S256x6912, .f32⟩
  | .hbm, ⟨63, _⟩ => ⟨S256x6912, .f32⟩
  | .hbm, ⟨64, _⟩ => ⟨S256x6912, .bf16⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.DenseBlock.lean ====
/-
  The dense block product: what one grid point of the dense call computes, over the extended reals.
-/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.DenseBlock

open Cert.KernelIdeal Cert.KernelIdeal.Gen Idealize.ShloMosaic Idealize.ShloMosaic.TcCoe

/-- The code at parity `p` of a packed byte: the low four bits at parity 0, the high four at parity 1, as an extended real. -/
def nib (p : ℕ) (b : BitVec 8) : EReal :=
  (((if p = 0 then IntOp.andi (b.setWidth 32) 15#32 else IntOp.shrsi .vector (b.setWidth 32) 4#32).toInt : ℝ) : EReal)

/-- The dequantised weight of a packed byte: code minus zero point, times scale. -/
def deq (p : ℕ) (b : BitVec 8) (s : EReal) (z : BitVec 8) : EReal :=
  (nib p b - ((z.toNat : ℝ) : EReal)) * s

/-- The decoding as the program writes it: the parity tested by `p < 1`, the conversions by name. -/
theorem deq_eq (p : ℕ) (b : BitVec 8) (s : Ideal .bf16) (z : BitVec 8) :
    (FloatOps.sitofp (F := Ideal) FTy.bf16
        (if h : p < 1 then IntOp.andi (BitVec.setWidth 32 b) 15#32 else IntOp.shrsi ArithUnit.vector (BitVec.setWidth 32 b) 4#32)
      - FloatOps.uitofp (F := Ideal) FTy.bf16 z) * s = deq p b s z := by
  unfold deq nib
  by_cases h : p = 0
  · subst h; rfl
  · rw [dif_neg (by omega), if_neg h]; rfl

/-- Two sums whose summands share a factor and agree in the other are equal, after a common accumulator. -/
theorem add_sum_congr (A : EReal) (x f g : Fin 1024 → EReal) (h : ∀ k, f k = g k) : A + ∑ k, x k * f k = A + ∑ k, x k * g k := by
  rw [Finset.sum_congr rfl fun k _ => congrArg (x k * ·) (h k)]

/-- One chunk of the product: the accumulator plus the inner product over the chunk's 1024 contraction indices with the
    weights decoded from the packed bytes. -/
theorem pay1_apply (acc : FVec Ideal S256x256 .f32) (w : Vec Ideal S512x256 .i8) (s : Vec Ideal S64x256 .bf16)
    (z : Vec Ideal S64x256 .i8) (x : Vec Ideal S256x1024 .bf16) (r c : Fin 256) :
    k0_pay1 (F := Ideal) acc (k0_pay8 w s z) x (ix2 r c)
      = acc (ix2 r c) + ∑ k : Fin 1024, x (ix2 r k) * deq (k.val % 2) (w (ix2 ⟨k.val / 2, by omega⟩ c))
          (s (ix2 ⟨k.val / 16, by omega⟩ c)) (z (ix2 ⟨k.val / 16, by omega⟩ c)) := by
  pointwise [k0_pay1, k0_pay8]
  refine add_sum_congr _ _ _ _ fun k => ?_
  exact deq_eq (k.val % 2) (w (ix2 ⟨k.val / 2, by omega⟩ c)) (s (ix2 ⟨k.val / 16, by omega⟩ c)) (z (ix2 ⟨k.val / 16, by omega⟩ c))

/-- The first chunk starts from the zero accumulator. -/
theorem pay2_eq (w : Vec Ideal S512x256 .i8) (s : Vec Ideal S64x256 .bf16) (z : Vec Ideal S64x256 .i8) (x : Vec Ideal S256x1024 .bf16) :
    k0_pay2 (F := Ideal) w s z x = k0_pay1 (broadcast S256x256 (Scalar.ofBits .f32 0x00000000#32)) (k0_pay8 w s z) x := rfl

/-- The second and third chunks, each added in turn. -/
theorem pay4_eq (acc : FVec Ideal S256x256 .f32) (w : Vec Ideal S512x256 .i8) (s : Vec Ideal S64x256 .bf16) (z : Vec Ideal S64x256 .i8) (x : Vec Ideal S256x1024 .bf16)
    (w' : Vec Ideal S512x256 .i8) (s' : Vec Ideal S64x256 .bf16) (z' : Vec Ideal S64x256 .i8) (x' : Vec Ideal S256x1024 .bf16) :
    k0_pay4 (F := Ideal) acc (k0_pay3 w) s z x w' s' z' x' = k0_pay1 (k0_pay1 acc (k0_pay8 w s z) x) (k0_pay8 w' s' z') x' := rfl

/-- The fourth chunk. -/
theorem pay7_eq (acc : FVec Ideal S256x256 .f32) (w : Vec Ideal S512x256 .i8) (s : Vec Ideal S64x256 .bf16) (z : Vec Ideal S64x256 .i8) (x : Vec Ideal S256x1024 .bf16) :
    k0_pay7 (F := Ideal) acc (k0_pay5 (F := Ideal) w) k0_pay6 s z x = k0_pay1 acc (k0_pay8 w s z) x := rfl

/-- The zero offsets of a whole-block access. -/
theorem hz : (![0, 0] : Fin 2 → Nat) = fun _ => 0 := funext fun a => by fin_cases a <;> rfl

/-- The summand at contraction index `k` of the block product. -/
def term (x0 : Vec Ideal S256x5120 .bf16) (x1 : Vec Ideal S2560x256 .i8) (x2 : Vec Ideal S320x256 .bf16)
    (x3 : Vec Ideal S320x256 .i8) (r c : Fin 256) (k : Fin 5120) : EReal :=
  x0 (ix2 r k) * deq (k.val % 2) (x1 (ix2 ⟨k.val / 2, by omega⟩ c))
    (x2 (ix2 ⟨k.val / 16, by omega⟩ c)) (x3 (ix2 ⟨k.val / 16, by omega⟩ c))

/-- The summand of a later chunk, its indices shifted by the chunk's start. -/
theorem term_shift (x0 : Vec Ideal S256x5120 .bf16) (x1 : Vec Ideal S2560x256 .i8) (x2 : Vec Ideal S320x256 .bf16)
    (x3 : Vec Ideal S320x256 .i8) (r c : Fin 256) (a b g : ℕ) (k : Fin 1024) (ha : a + k.val < 5120) (hb : b + k.val / 2 < 2560)
    (hg : g + k.val / 16 < 320) (hg' : g + k.val / 16 < 320) (h2 : (a + k.val) % 2 = k.val % 2) (hb2 : (a + k.val) / 2 = b + k.val / 2)
    (hg2 : (a + k.val) / 16 = g + k.val / 16) :
    x0 (ix2 r ⟨a + k.val, ha⟩) * deq (k.val % 2) (x1 (ix2 ⟨b + k.val / 2, hb⟩ c)) (x2 (ix2 ⟨g + k.val / 16, hg⟩ c))
      (x3 (ix2 ⟨g + k.val / 16, hg'⟩ c)) = term x0 x1 x2 x3 r c ⟨a + k.val, ha⟩ := by
  unfold term
  simp only [h2, hb2, hg2]

/-- What a grid point leaves in its output block: the inner products over all 5120 contraction indices. -/
theorem out_apply (x0 : Vec Ideal S256x5120 .bf16) (x1 : Vec Ideal S2560x256 .i8) (x2 : Vec Ideal S320x256 .bf16)
    (x3 : Vec Ideal S320x256 .i8) (r c : Fin 256) :
    out0_4 (F := Ideal) x0 x1 x2 x3 (ix2 r c) = ∑ k : Fin 5120, term x0 x1 x2 x3 r c k := by
  unfold out0_4
  rw [View.canon_unit_zero hz, pay2_eq, pay4_eq, pay7_eq]
  rw [Fin.sum_univ_tiles 5 1024 rfl, Fin.sum_univ_five]
  simp only [pay1_apply]
  pointwise
  refine congrArg₂ (· + ·) (congrArg₂ (· + ·) (congrArg₂ (· + ·) (congrArg₂ (· + ·) ?_ ?_) ?_) ?_) ?_
  · rfl
  · exact Finset.sum_congr rfl fun k _ => term_shift x0 x1 x2 x3 r c 1024 512 64 k _ _ _ _ (by omega) (by omega) (by omega)
  · exact Finset.sum_congr rfl fun k _ => term_shift x0 x1 x2 x3 r c 2048 1024 128 k _ _ _ _ (by omega) (by omega) (by omega)
  · exact Finset.sum_congr rfl fun k _ => term_shift x0 x1 x2 x3 r c 3072 1536 192 k _ _ _ _ (by omega) (by omega) (by omega)
  · exact Finset.sum_congr rfl fun k _ => term_shift x0 x1 x2 x3 r c 4096 2048 256 k _ _ _ _ (by omega) (by omega) (by omega)

end Cert.KernelIdeal.DenseBlock

end
-- ==== Proof.DenseArray.lean ====
/-
  The dense call's result array: every element is the inner product of its row of activations with its column of
  weights decoded from the packed bytes.
-/
module

public import proofs.«01_k».proof.Proof.DenseBlock
public import proofs.«01_k».proof.Proof.Gen.KernelIdeal.Value

@[expose] public section

set_option maxRecDepth 16384

noncomputable section

namespace Cert.KernelIdeal.DenseArray

open Cert.KernelIdeal Cert.KernelIdeal.Gen Cert.KernelIdeal.DenseBlock Idealize.ShloMosaic Idealize.ShloMosaic.TcCoe
  Idealize.SL.Sem
open Idealize.ShloMosaic.Pipeline (Dat)

variable (m : (ℓ : Loc nD τ sig) → Buf (Elt Ideal) ℓ) (ρ : Dev nD → PrngReg)

/-- The summand at contraction index `k` for row `r` and column `n`: the activation times the decoded weight. -/
def summand (x : Vec Ideal S256x1x5120 .bf16) (wp : Vec Ideal S2560x6912 .i8) (ws : Vec Ideal S320x6912 .bf16)
    (wz : Vec Ideal S320x6912 .i8) (r : Fin 256) (n : Fin 6912) (k : Fin 5120) : EReal :=
  x (ix3 r (0 : Fin 1) k) * deq (k.val % 2) (wp (ix2 ⟨k.val / 2, by omega⟩ n))
    (ws (ix2 ⟨k.val / 16, by omega⟩ n)) (wz (ix2 ⟨k.val / 16, by omega⟩ n))

/-- The dense product of the four arguments, element by element. -/
def dense (x : Vec Ideal S256x1x5120 .bf16) (wp : Vec Ideal S2560x6912 .i8) (ws : Vec Ideal S320x6912 .bf16)
    (wz : Vec Ideal S320x6912 .i8) : Vec Ideal S256x6912 .f32 :=
  fun i => ∑ k : Fin 5120, summand x wp ws wz (i 0) (i 1) k

/-- The array the first window reads: the activations with their unit axis dropped. -/
theorem V_main_v0 (c : Dev nD) : V m c main_v0 = shapeCast S256x5120 (m ((c : Thread nD τ).loc main_arg0)) shapeCasts_S256x1x5120_S256x5120 := by
  show StableHlo.after hostOps0 (fun b => m (c, b)) (Proc.devRef .tc main_v0) = _
  after_results_simp
  rfl

/-- Dropping the unit axis keeps every element. -/
theorem squeeze_apply (x : Vec Ideal S256x1x5120 .bf16) (r : Fin 256) (k : Fin 5120) :
    shapeCast S256x5120 x shapeCasts_S256x1x5120_S256x5120 (ix2 r k) = x (ix3 r 0 k) := by
  pointwise

/-- That array at an index. -/
theorem V_main_v0_apply (c : Dev nD) (r : Fin 256) (k : Fin 5120) :
    (V m c main_v0 : Vec Ideal S256x5120 .bf16) (ix2 r k) = (m ((c : Thread nD τ).loc main_arg0) : Vec Ideal S256x1x5120 .bf16) (ix3 r 0 k) := by
  rw [V_main_v0]
  exact squeeze_apply _ r k

/-- Window 0's block index at a grid point. -/
theorem index0 : ∀ t : Fin cfg0.N, win0_0.index t 0 = 0 ∧ win0_0.index t 1 = 0 :=
  (by decide +kernel : ∀ t : Fin grid0.N, _)
/-- Window 1's block index at a grid point. -/
theorem index1 : ∀ t : Fin cfg0.N, win0_1.index t 0 = 0 ∧ win0_1.index t 1 = t.val :=
  (by decide +kernel : ∀ t : Fin grid0.N, _)
/-- Window 2's block index at a grid point. -/
theorem index2 : ∀ t : Fin cfg0.N, win0_2.index t 0 = 0 ∧ win0_2.index t 1 = t.val :=
  (by decide +kernel : ∀ t : Fin grid0.N, _)
/-- Window 3's block index at a grid point. -/
theorem index3 : ∀ t : Fin cfg0.N, win0_3.index t 0 = 0 ∧ win0_3.index t 1 = t.val :=
  (by decide +kernel : ∀ t : Fin grid0.N, _)
/-- Window 4's block index at a grid point. -/
theorem index4 : ∀ t : Fin cfg0.N, win0_4.index t 0 = 0 ∧ win0_4.index t 1 = t.val :=
  (by decide +kernel : ∀ t : Fin grid0.N, _)

/-- The grid has 27 points. -/
theorem lt27 (t : Fin cfg0.N) : t.val < 27 := t.isLt

/-- Column `c` of block `t`. -/
def col (t : Fin cfg0.N) (c : Fin 256) : Fin 6912 := ⟨t.val * 256 + c.val, by have := lt27 t; omega⟩

/-- The first window's block is the whole array. -/
theorem iblk0 (c : Dev nD) (t : Fin cfg0.N) (r : Fin 256) (k : Fin 5120) :
    (iblk m c 0 t : Vec Ideal S256x5120 .bf16) (ix2 r k) = (m ((c : Thread nD τ).loc main_arg0) : Vec Ideal S256x1x5120 .bf16) (ix3 r 0 k) := by
  rw [← V_main_v0_apply m c r k]
  unfold iblk
  rw [View.read_apply]
  show V m c main_v0 _ = V m c main_v0 _
  congr 1
  funext a
  apply Fin.ext
  match a with
  | ⟨0, _⟩ => show win0_0.index t 0 * 256 + 1 * r.val = r.val; rw [(index0 t).1]; omega
  | ⟨1, _⟩ => show win0_0.index t 1 * 5120 + 1 * k.val = k.val; rw [(index0 t).2]; omega

/-- The second window's block is a column block of the packed bytes. -/
theorem iblk1 (c : Dev nD) (t : Fin cfg0.N) (k : Fin 2560) (j : Fin 256) :
    (iblk m c 1 t : Vec Ideal S2560x256 .i8) (ix2 k j) = (m ((c : Thread nD τ).loc main_arg1) : Vec Ideal S2560x6912 .i8) (ix2 k (col t j)) := by
  rw [← V_main_arg1 m c]
  unfold iblk
  rw [View.read_apply]
  show V m c main_arg1 _ = V m c main_arg1 _
  congr 1
  funext a
  apply Fin.ext
  match a with
  | ⟨0, _⟩ => show win0_1.index t 0 * 2560 + 1 * k.val = k.val; rw [(index1 t).1]; omega
  | ⟨1, _⟩ => show win0_1.index t 1 * 256 + 1 * j.val = t.val * 256 + j.val; rw [(index1 t).2]; omega

/-- The third window's block is a column block of the scales. -/
theorem iblk2 (c : Dev nD) (t : Fin cfg0.N) (k : Fin 320) (j : Fin 256) :
    (iblk m c 2 t : Vec Ideal S320x256 .bf16) (ix2 k j) = (m ((c : Thread nD τ).loc main_arg2) : Vec Ideal S320x6912 .bf16) (ix2 k (col t j)) := by
  rw [← V_main_arg2 m c]
  unfold iblk
  rw [View.read_apply]
  show V m c main_arg2 _ = V m c main_arg2 _
  congr 1
  funext a
  apply Fin.ext
  match a with
  | ⟨0, _⟩ => show win0_2.index t 0 * 320 + 1 * k.val = k.val; rw [(index2 t).1]; omega
  | ⟨1, _⟩ => show win0_2.index t 1 * 256 + 1 * j.val = t.val * 256 + j.val; rw [(index2 t).2]; omega

/-- The fourth window's block is a column block of the zero points. -/
theorem iblk3 (c : Dev nD) (t : Fin cfg0.N) (k : Fin 320) (j : Fin 256) :
    (iblk m c 3 t : Vec Ideal S320x256 .i8) (ix2 k j) = (m ((c : Thread nD τ).loc main_arg3) : Vec Ideal S320x6912 .i8) (ix2 k (col t j)) := by
  rw [← V_main_arg3 m c]
  unfold iblk
  rw [View.read_apply]
  show V m c main_arg3 _ = V m c main_arg3 _
  congr 1
  funext a
  apply Fin.ext
  match a with
  | ⟨0, _⟩ => show win0_3.index t 0 * 320 + 1 * k.val = k.val; rw [(index3 t).1]; omega
  | ⟨1, _⟩ => show win0_3.index t 1 * 256 + 1 * j.val = t.val * 256 + j.val; rw [(index3 t).2]; omega

/-- The dense product of the launched arguments, as contents of the result array. -/
abbrev result (c : Dev nD) : Buf (Elt Ideal) ((c : Thread nD τ).loc main_v1) :=
  dense (m ((c : Thread nD τ).loc main_arg0)) (m ((c : Thread nD τ).loc main_arg1)) (m ((c : Thread nD τ).loc main_arg2))
    (m ((c : Thread nD τ).loc main_arg3))

/-- What a grid point leaves, read at an index of its block. -/
theorem out_block (c : Dev nD) (t : Fin cfg0.N) (r j : Fin 256) :
    out0_4 (F := Ideal) (iblk m c 0 t) (iblk m c 1 t) (iblk m c 2 t) (iblk m c 3 t) (ix2 r j) = result m c (ix2 r (col t j)) := by
  rw [out_apply]
  show _ = ∑ k : Fin 5120, summand _ _ _ _ r (col t j) k
  refine Finset.sum_congr rfl fun k _ => ?_
  unfold term summand
  rw [iblk0, iblk1, iblk2, iblk3]

/-- What point `t` writes back is its block of the dense product. -/
theorem flushed_eq (c : Dev nD) (t : Fin cfg0.N) :
    (dats m 0 c).flushed 4 t = ((cfg0.win 4).blk t).view.read (Elt Ideal) (result m c) := by
  rw [Value.flushed4]
  funext j
  rw [View.read_apply]
  show out0_4 (F := Ideal) (iblk m c 0 t) (iblk m c 1 t) (iblk m c 2 t) (iblk m c 3 t) _ = result m c _
  obtain ⟨r, q, rfl⟩ : ∃ (r : Fin 256) (q : Fin 256), j = ix2 r q := ⟨j 0, j 1, eq_ix2 j⟩
  refine Eq.trans ?_ ((out_block m c t r q).trans ?_)
  · congr 1
  · congr 1
    funext a
    apply Fin.ext
    match a with
    | ⟨0, _⟩ => show r.val = win0_4.index t 0 * 256 + 1 * r.val; rw [(index4 t).1]; omega
    | ⟨1, _⟩ => show t.val * 256 + q.val = win0_4.index t 1 * 256 + 1 * q.val; rw [(index4 t).2]; omega

/-- The blocks cover the result array. -/
theorem cover (i : S256x6912.Idx) : ∃ t : Fin cfg0.N, (cfg0.win 4).flush t = true ∧ i ∈ ((cfg0.win 4).blk t).view.set := by
  have h0 : (i 0 : Nat) < 256 := (i 0).isLt
  have h1 : (i 1 : Nat) < 6912 := (i 1).isLt
  have hN : cfg0.N = 27 := rfl
  refine ⟨⟨(i 1 : Nat) / 256, by omega⟩, flush0_4 _, ?_⟩
  generalize ht : (⟨(i 1 : Nat) / 256, _⟩ : Fin cfg0.N) = t
  have htv : t.val = (i 1 : Nat) / 256 := by rw [← ht]
  show i ∈ ((View.whole main_v1).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [(index4 t).1]; omega
  | ⟨1, _⟩ =>
    show win0_4.index t 1 * 256 ≤ (i 1 : Nat) ∧ (i 1 : Nat) < win0_4.index t 1 * 256 + 256
    rw [(index4 t).2]; omega

/-- So the result array ends holding the dense product. -/
theorem final (c : Dev nD) : (dats m 0 c).arrAt 4 cfg0.N = result m c :=
  (dats m 0 c).arrAt_eq_of_cover 4 (result m c) (fun t _ => flushed_eq m c t) cover

/-- The run: the result array at the dense product, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.DenseArray

end
-- ==== Proof.DenseRef.lean ====
/-
  The reference's result, element by element, and its equality with the kernel's dense product.
-/
module

public import proofs.«01_k».proof.Proof.DenseArray
public import proofs.«01_k».proof.Proof.Gen.ReferenceIdeal.Run

@[expose] public section

set_option maxRecDepth 16384

noncomputable section

namespace Cert.ReferenceIdeal.DenseRef

open Cert.ReferenceIdeal Cert.ReferenceIdeal.Gen Idealize.ShloMosaic Idealize.ShloMosaic.TcCoe
open Cert.KernelIdeal.DenseBlock (nib deq)
open Cert.KernelIdeal.DenseArray (summand dense)

/-- The reference's term: the two inner products over even and odd rows. -/
abbrev refTerm (x : Vec Ideal S256x1x5120 .bf16) (wp : Vec Ideal S2560x6912 .i8) (ws : Vec Ideal S320x6912 .bf16)
    (wz : Vec Ideal S320x6912 .i8) : Vec Ideal S256x6912 .f32 :=
  shapeCast _ (addf (Host.dotGeneral (F := Ideal) (φ₁ := .bf16) (φ₂ := .bf16) dot_S256x1x2560_S2560x6912_S256x1x6912_2_0_01_1_n_n none (Host.slice S256x1x2560 ![0, 0, 0] ![1, 1, 2] x slicesBy_S256x1x5120_S256x1x2560_0s1_0s1_0s2) (shapeCast _ (mulf (subf (shapeCast _ (sitofp .bf16 (andi (extui 32 wp natLt_8_32) (broadcastInDim S2560x6912 ![] bcast_S_S2560x6912 (constantI S_ 32 15#32)))) shapeCasts_S2560x6912_S320x8x6912) (broadcastInDim S320x8x6912 ![0, 1, 2] bcast_S320x1x6912_S320x8x6912_0_1_2 (broadcastInDim S320x1x6912 ![0, 2] bcast_S320x6912_S320x1x6912_0_2 (sitofp .bf16 (extui 32 wz natLt_8_32))))) (broadcastInDim S320x8x6912 ![0, 1, 2] bcast_S320x1x6912_S320x8x6912_0_1_2 (broadcastInDim S320x1x6912 ![0, 2] bcast_S320x6912_S320x1x6912_0_2 ws))) shapeCasts_S320x8x6912_S2560x6912)) (Host.dotGeneral (F := Ideal) (φ₁ := .bf16) (φ₂ := .bf16) dot_S256x1x2560_S2560x6912_S256x1x6912_2_0_01_1_n_n none (Host.slice S256x1x2560 ![0, 0, 1] ![1, 1, 2] x slicesBy_S256x1x5120_S256x1x2560_0s1_0s1_1s2) (shapeCast _ (mulf (subf (shapeCast _ (sitofp .bf16 (Host.shrsi (extui 32 wp natLt_8_32) (broadcastInDim S2560x6912 ![] bcast_S_S2560x6912 (constantI S_ 32 4#32)))) shapeCasts_S2560x6912_S320x8x6912) (broadcastInDim S320x8x6912 ![0, 1, 2] bcast_S320x1x6912_S320x8x6912_0_1_2 (broadcastInDim S320x1x6912 ![0, 2] bcast_S320x6912_S320x1x6912_0_2 (sitofp .bf16 (extui 32 wz natLt_8_32))))) (broadcastInDim S320x8x6912 ![0, 1, 2] bcast_S320x1x6912_S320x8x6912_0_1_2 (broadcastInDim S320x1x6912 ![0, 2] bcast_S320x6912_S320x1x6912_0_2 ws))) shapeCasts_S320x8x6912_S2560x6912))) shapeCasts_S256x1x6912_S256x6912

/-- A right shift by four is the same on the host and on the vector unit. -/
theorem host_shift (b : BitVec 8) : IntOp.shrsi ArithUnit.host (BitVec.setWidth 32 b) 4#32 = IntOp.shrsi ArithUnit.vector (BitVec.setWidth 32 b) 4#32 := by
  rfl

/-- Zero extension keeps a byte's value. -/
theorem toInt_setWidth (z : BitVec 8) : (BitVec.setWidth 32 z).toInt = (z.toNat : ℤ) := by
  have h := z.isLt
  rw [BitVec.toInt_eq_toNat_of_lt (by rw [BitVec.toNat_setWidth]; omega), BitVec.toNat_setWidth, Nat.mod_eq_of_lt (by omega)]

/-- The reference's decoded weight at an even row. -/
theorem deq_even (b : BitVec 8) (s : Ideal .bf16) (z : BitVec 8) :
    (FloatOps.sitofp (F := Ideal) FTy.bf16 (IntOp.andi (BitVec.setWidth 32 b) 15#32)
      - FloatOps.sitofp (F := Ideal) FTy.bf16 (BitVec.setWidth 32 z)) * s = deq 0 b s z := by
  show (_ - (((BitVec.setWidth 32 z).toInt : ℝ) : EReal)) * s = _
  rw [toInt_setWidth]
  rfl

/-- The reference's decoded weight at an odd row. -/
theorem deq_odd (b : BitVec 8) (s : Ideal .bf16) (z : BitVec 8) :
    (FloatOps.sitofp (F := Ideal) FTy.bf16 (IntOp.shrsi ArithUnit.host (BitVec.setWidth 32 b) 4#32)
      - FloatOps.sitofp (F := Ideal) FTy.bf16 (BitVec.setWidth 32 z)) * s = deq 1 b s z := by
  rw [host_shift]
  show (_ - (((BitVec.setWidth 32 z).toInt : ℝ) : EReal)) * s = _
  rw [toInt_setWidth]
  rfl

/-- A sum over 5120 indices is the sum over the even ones plus the sum over the odd ones. -/
theorem sum_parity (f : Fin 5120 → EReal) :
    ∑ k : Fin 5120, f k = ∑ k : Fin 2560, f ⟨2 * k.val, by omega⟩ + ∑ k : Fin 2560, f ⟨1 + 2 * k.val, by omega⟩ := by
  rw [Fin.sum_univ_tiles 2560 2 rfl, ← Finset.sum_add_distrib]
  refine Finset.sum_congr rfl fun k _ => ?_
  rw [Fin.sum_univ_two]
  refine congrArg₂ (· + ·) (congrArg f (Fin.ext ?_)) (congrArg f (Fin.ext ?_)) <;> dsimp <;> omega

/-- The reference's result is the dense product. -/
theorem refTerm_apply (x : Vec Ideal S256x1x5120 .bf16) (wp : Vec Ideal S2560x6912 .i8) (ws : Vec Ideal S320x6912 .bf16)
    (wz : Vec Ideal S320x6912 .i8) (r : Fin 256) (n : Fin 6912) :
    refTerm x wp ws wz (ix2 r n) = dense x wp ws wz (ix2 r n) := by
  unfold refTerm
  pointwise
  show _ = ∑ k : Fin 5120, summand x wp ws wz r n k
  rw [sum_parity]
  refine congrArg₂ (· + ·) (Finset.sum_congr rfl fun k _ => ?_) (Finset.sum_congr rfl fun k _ => ?_)
  · unfold summand
    have h2 : (2 * k.val) % 2 = 0 := by omega
    have hk : (2 * k.val) / 2 = k.val := by omega
    have hg : (2 * k.val) / 16 = k.val / 8 := by omega
    simp only [h2, hk, hg]
    exact congrArg (x (ix3 r 0 ⟨2 * k.val, by omega⟩) * ·)
      (deq_even (wp (ix2 k n)) (ws (ix2 ⟨k.val / 8, by omega⟩ n)) (wz (ix2 ⟨k.val / 8, by omega⟩ n)))
  · unfold summand
    have h2 : (1 + 2 * k.val) % 2 = 1 := by omega
    have hk : (1 + 2 * k.val) / 2 = k.val := by omega
    have hg : (1 + 2 * k.val) / 16 = k.val / 8 := by omega
    simp only [h2, hk, hg]
    exact congrArg (x (ix3 r 0 ⟨1 + 2 * k.val, by omega⟩) * ·)
      (deq_odd (wp (ix2 k n)) (ws (ix2 ⟨k.val / 8, by omega⟩ n)) (wz (ix2 ⟨k.val / 8, by omega⟩ n)))

/-- The same, as arrays. -/
theorem refTerm_eq (x : Vec Ideal S256x1x5120 .bf16) (wp : Vec Ideal S2560x6912 .i8) (ws : Vec Ideal S320x6912 .bf16)
    (wz : Vec Ideal S320x6912 .i8) : refTerm x wp ws wz = dense x wp ws wz := by
  funext i
  rw [eq_ix2 i]
  exact refTerm_apply x wp ws wz (i 0) (i 1)

end Cert.ReferenceIdeal.DenseRef

end
-- ==== Proof.SparseIdeal.Runs.lean ====
/- What the runs of the outlier kernel's body share: the whole program up to the call, the windows' blocks, the
   frame's post, and everything the runs are stated over (the staging and scratch buffers, the kernel's own
   semaphores, the two arrays it copies itself). -/
module

public import proofs.«01_k».proof.Proof.Gen.SparseIdeal
public import proofs.«01_k».proof.Proof.Gen.SparseIdeal.Frame
public import proofs.«01_k».proof.Proof.Gen.SparseIdeal.Loops
public import proofs.«01_k».proof.Proof.Gen.SparseIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SparseIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SparseIdeal.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_SparseIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- One staging buffer of output window 5, through which its contents are stated (`View.read_writes_of_cover`: the
    choice does not matter). -/
abbrev VO0_5 : View sig .tc .vmem S256x256 .bf16 := (Memref.whole cc0_stg5_0 : Memref sig .tc .vmem S256x256 .bf16).view
/-- Each window's current staging memref at point `t`, spelled as the pipeline passes it (`bodyAt0`), and its wholeness. -/
abbrev ms0_0 (t : Fin cfg0.N) : Memref sig .tc .smem S512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S160x1x8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x1x2x8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S5120x256 .f32 := Memref.whole cc0_scratch0
abbrev scM0_1 : Memref sig .tc .smem S5121 .i32 := Memref.whole cc0_scratch1
abbrev scM0_2 : Memref sig .tc .smem S1024 .i32 := Memref.whole cc0_scratch2
/-- The operands left in HBM that the body copies into scratch itself, whole. -/
abbrev hbM0_0 : Memref sig .tc .hbm S5121 .i32 := Memref.whole main_arg5
abbrev hbM0_1 : Memref sig .tc .hbm S276480 .i32 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array (`Pipeline.restRefs`). -/
def H0 : Finset (Ref sig .tc) := {main_arg5, main_arg6}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg6)) := by
  rw [BI.bigSep_eq_bigSepL_of_eq [main_arg5, main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg5) ∗ hbPt0 c hbM0_1 (V m c main_arg6))) := by
  rw [Pipeline.ΦD_eq, scopedRest0_eq, ownSems00_eq, hbmPts0_eq]; simp only [scM0_0, scM0_1, scM0_2, owns_whole]; try rfl

/-- The flag word at one place, as the body reads it. -/
abbrev fw (arg1 : Memref sig .tc .smem S512 .i32) (harg1 : arg1.IsWhole) (x0 : Vec F S512 .i32) {k : Nat}
    (h : ∀ a, (![k] : Fin 1 → Nat) a + S1.size a ≤ S512.size a) : Elt F .i32 :=
  View.readAt (Elt F) arg1.view (Rect.unit (s := S512) ![k] S1.size h).toLoadRect (harg1.unread x0)
    (Shape.Idx.first (smemLoad._proof_2 (Rect.unit (s := S512) ![k] S1.size h) numel1_S1))

end Cert.SparseIdeal.Run

end
-- ==== Proof.SparseIdeal.Tables.lean ====
/-
  The kernel's body where no block overflowed: the run of the tables' branch.
-/
module

public import proofs.«01_k».proof.Proof.SparseIdeal.Runs

@[expose] public section

-- membership in a rectangle of production extents (`View.cover_of_tiled`): the elaborator's structural look
-- recurses once per coordinate of the long axes
set_option maxRecDepth 16384

noncomputable section

namespace Cert.SparseIdeal.Run

open Cert.SparseIdeal.Gen hiding hmain before0_0_of before0_1_of before0_2_of before0_3_of before0_4_of frame_of

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4692000 in
/-- What the body's stores leave in each output's staging memref, as pieces (last first), WITH the
    proof that on whole staging memrefs — the inputs' at their contents, the other outputs' at
    anything, the scratch buffers at anything, the HBM operands it copies whole at their launch contents `fh·`, its DMA cells at zero and the core's `owes`, the body runs to the continuation holding the inputs' as they were,
    the scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    (hA : Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)
    (hB : ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1)) :
    { L5 : List (View.Piece (Elt F) S256x256 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sparse i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4) K } := by
  refine ⟨?_, fun W K => ?run⟩
  case run =>
    simp only [cc0_sparse_eq_skeleton]; unfold cc0_sparse_skel
    simp only [k0_part177_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part178_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part179_eq_skeleton, k0_part182_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.SparseIdeal.Run

end
-- ==== Proof.SparseIdeal.TableFrame.lean ====
/-
  The outlier call where no table overflowed, with what each grid point leaves in its output block named.
-/
module

public import proofs.«01_k».proof.Proof.SparseIdeal.Tables
public import Idealize.ShloMosaic.Lib.Claim
public import Idealize.ShloMosaic.Lib.Pipeline.ValueKit.Tiles
public import Idealize.ShloMosaic.Lib.Pipeline.Value
public import Idealize.ShloMosaic.Lib.WholeRead
public import Idealize.ShloMosaic.Lib.Pointwise

@[expose] public section

set_option maxRecDepth 16384

noncomputable section

namespace Cert.SparseIdeal.TableRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SparseIdeal.Gen hiding hmain before0_0_of before0_1_of before0_2_of before0_3_of before0_4_of frame_of
open Cert.SparseIdeal.Run
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Every table's overflow flag is zero. -/
def flagsZero (x0 : Vec F S512 .i32) : Prop := ∀ k : Fin 512, k.val % 16 = 0 → x0 (ix1 k) = 0#32

/-- A flag word read is the flags' element there. -/
theorem fw_eq (arg1 : Memref sig .tc .smem S512 .i32) (harg1 : arg1.IsWhole) (x0 : Vec F S512 .i32) {k : Nat}
    (h : ∀ a, (![k] : Fin 1 → Nat) a + S1.size a ≤ S512.size a) (h0 : flagsZero x0) (hk : k % 16 = 0) : fw arg1 harg1 x0 h = 0#32 := by
  have hk' : k < 512 := h 0
  rw [← h0 ⟨k, hk'⟩ hk]
  refine (harg1.readAt_unread x0 _ _).trans (congrArg x0 ?_)
  funext a
  apply Fin.ext
  match a with
  | ⟨0, _⟩ => exact Rect.idx_unit_val _ _ _ _ _

/-- With all flags zero their disjunction is zero, -/
theorem or_zero (arg1 : Memref sig .tc .smem S512 .i32) (harg1 : arg1.IsWhole) (x0 : Vec F S512 .i32) (h0 : flagsZero x0) :
    (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) = 0#32 := by
  repeat rw [fw_eq arg1 harg1 x0 _ h0 (by decide)]
  rfl

/-- so that the tables are used -/
theorem hA_of (arg1 : Memref sig .tc .smem S512 .i32) (harg1 : arg1.IsWhole) (x0 : Vec F S512 .i32) (h0 : flagsZero x0) :
    Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1 := by
  rw [or_zero arg1 harg1 x0 h0]; decide

/-- and the entries are not scanned. -/
theorem hB_of (arg1 : Memref sig .tc .smem S512 .i32) (harg1 : arg1.IsWhole) (x0 : Vec F S512 .i32) (h0 : flagsZero x0) :
    ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1) := by
  show ¬ (Scalar.cmpi .ne (Scalar.extui (Scalar.cmpi .ne (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)
  rw [or_zero arg1 harg1 x0 h0]; decide

/-- The run's pieces for output 5 tile its block (1 store of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    (hA : Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1) (hB : ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1)) (y : S256x256.Idx) :
    ∃ pc ∈ (kernelRun0_A c i arg1 harg1 arg2 harg2 arg3 harg3 arg4 harg4 arg5 harg5 arg8 harg8 arg9 harg9 arg10 harg10 arg11 harg11 x0 x1 x2 x3 x4 fh0 fh1 hA hB).1, y ∈ pc.1.set :=
  View.cover_of_tiledL (kernelRun0_A c i arg1 harg1 arg2 harg2 arg3 harg3 arg4 harg4 arg5 harg5 arg8 harg8 arg9 harg9 arg10 harg10 arg11 harg11 x0 x1 x2 x3 x4 fh0 fh1 hA hB).1 S256x256.size (by sl_kernel_rfl) y

/-- What the run leaves in output 5's staging buffer: its pieces read back over junk. -/
def out0_A_5 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    (hA : Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1) (hB : ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1)) : Vec F S256x256 .bf16 :=
  VO0_5.read (Elt F) (VO0_5.writes (Elt F) VO0_5.junk (kernelRun0_A c i arg1 harg1 arg2 harg2 arg3 harg3 arg4 harg4 arg5 harg5 arg8 harg8 arg9 harg9 arg10 harg10 arg11 harg11 x0 x1 x2 x3 x4 fh0 fh1 hA hB).1)

/-! ## What the outputs hold after each point -/

/-- What the outputs' staging buffers hold after the body at point `t`: the run's contents at
    the point's memrefs and input blocks. -/
def outsAt0 (hz : ∀ (c : Dev nD) (t : Fin cfg0.N), flagsZero (iblk m c 0 t)) (c : Dev nD) (t : Fin cfg0.N) : Vec F S256x256 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (V m c main_arg5) (V m c main_arg6) (hA_of _ _ _ (hz c t)) (hB_of _ _ _ (hz c t))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (hz : ∀ (c : Dev nD) (t : Fin cfg0.N), flagsZero (iblk m c 0 t)) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m hz c t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (hz : ∀ (c : Dev nD) (t : Fin cfg0.N), flagsZero (iblk m c 0 t)) (c : Dev nD) (w : Fin cfg0.W) : (dats m hz 0 c).A w = V m c (Pipeline.arrRef spec0 w) := by
  dsimp only [dats]

/-- What the body leaves, window by window (the proof data's `match` reduced by `dsimp`). -/
theorem after0_0 (hz : ∀ (c : Dev nD) (t : Fin cfg0.N), flagsZero (iblk m c 0 t)) (c : Dev nD) (t : Fin cfg0.N) : (dats m hz 0 c).after 0 t = iblk m c 0 t := by dsimp only [dats]
theorem after0_1 (hz : ∀ (c : Dev nD) (t : Fin cfg0.N), flagsZero (iblk m c 0 t)) (c : Dev nD) (t : Fin cfg0.N) : (dats m hz 0 c).after 1 t = iblk m c 1 t := by dsimp only [dats]
theorem after0_2 (hz : ∀ (c : Dev nD) (t : Fin cfg0.N), flagsZero (iblk m c 0 t)) (c : Dev nD) (t : Fin cfg0.N) : (dats m hz 0 c).after 2 t = iblk m c 2 t := by dsimp only [dats]
theorem after0_3 (hz : ∀ (c : Dev nD) (t : Fin cfg0.N), flagsZero (iblk m c 0 t)) (c : Dev nD) (t : Fin cfg0.N) : (dats m hz 0 c).after 3 t = iblk m c 3 t := by dsimp only [dats]
theorem after0_4 (hz : ∀ (c : Dev nD) (t : Fin cfg0.N), flagsZero (iblk m c 0 t)) (c : Dev nD) (t : Fin cfg0.N) : (dats m hz 0 c).after 4 t = iblk m c 4 t := by dsimp only [dats]
theorem after0_5 (hz : ∀ (c : Dev nD) (t : Fin cfg0.N), flagsZero (iblk m c 0 t)) (c : Dev nD) (t : Fin cfg0.N) : (dats m hz 0 c).after 5 t = (outsAt0 m hz c t) := by dsimp only [dats]

/-- Each input's current staging buffer holds its block at every point, fetched there or not (`beforeK_W_of`). -/
theorem before0_0 (hz : ∀ (c : Dev nD) (t : Fin cfg0.N), flagsZero (iblk m c 0 t)) (c : Dev nD) (t : Fin cfg0.N) (d) : (dats m hz 0 c).before 0 t d = iblk m c 0 t :=
  before0_0_of m (dats m hz 0 c) (A_eq m hz c 0) (after0_0 m hz c) t d
theorem before0_1 (hz : ∀ (c : Dev nD) (t : Fin cfg0.N), flagsZero (iblk m c 0 t)) (c : Dev nD) (t : Fin cfg0.N) (d) : (dats m hz 0 c).before 1 t d = iblk m c 1 t :=
  before0_1_of m (dats m hz 0 c) (A_eq m hz c 1) (after0_1 m hz c) t d
theorem before0_2 (hz : ∀ (c : Dev nD) (t : Fin cfg0.N), flagsZero (iblk m c 0 t)) (c : Dev nD) (t : Fin cfg0.N) (d) : (dats m hz 0 c).before 2 t d = iblk m c 2 t :=
  before0_2_of m (dats m hz 0 c) (A_eq m hz c 2) (after0_2 m hz c) t d
theorem before0_3 (hz : ∀ (c : Dev nD) (t : Fin cfg0.N), flagsZero (iblk m c 0 t)) (c : Dev nD) (t : Fin cfg0.N) (d) : (dats m hz 0 c).before 3 t d = iblk m c 3 t :=
  before0_3_of m (dats m hz 0 c) (A_eq m hz c 3) (after0_3 m hz c) t d
theorem before0_4 (hz : ∀ (c : Dev nD) (t : Fin cfg0.N), flagsZero (iblk m c 0 t)) (c : Dev nD) (t : Fin cfg0.N) (d) : (dats m hz 0 c).before 4 t d = iblk m c 4 t :=
  before0_4_of m (dats m hz 0 c) (A_eq m hz c 4) (after0_4 m hz c) t d

/-! ## The body obligation, at a generic point -/

/-- What the body is called with at point `t` (Lib/Pipeline.lean `BodyObligation`'s precondition, the windows one by one), -/
def bodyPre (hz : ∀ (c : Dev nD) (t : Fin cfg0.N), flagsZero (iblk m c 0 t)) (c : Dev nD) (t : Fin cfg0.N) : sProp 𝕄 :=
  iprop((dats m hz 0 c).Φ t.castSucc ∗ (dats m hz 0 c).owesAt () t.castSucc
    ∗ (∃ d, owns (c : Thread nD τ) (ms0_0 t) fullShare ((dats m hz 0 c).before 0 t d))
    ∗ (∃ d, owns (c : Thread nD τ) (ms0_1 t) fullShare ((dats m hz 0 c).before 1 t d))
    ∗ (∃ d, owns (c : Thread nD τ) (ms0_2 t) fullShare ((dats m hz 0 c).before 2 t d))
    ∗ (∃ d, owns (c : Thread nD τ) (ms0_3 t) fullShare ((dats m hz 0 c).before 3 t d))
    ∗ (∃ d, owns (c : Thread nD τ) (ms0_4 t) fullShare ((dats m hz 0 c).before 4 t d))
    ∗ (∃ d, owns (c : Thread nD τ) (ms0_5 t) fullShare ((dats m hz 0 c).before 5 t d)))

/-- and what it returns. -/
def bodyPost (hz : ∀ (c : Dev nD) (t : Fin cfg0.N), flagsZero (iblk m c 0 t)) (c : Dev nD) (t : Fin cfg0.N) : sProp 𝕄 :=
  iprop((dats m hz 0 c).Φ t.succ ∗ (dats m hz 0 c).owesAt () t.succ
    ∗ owns (c : Thread nD τ) (ms0_0 t) fullShare ((dats m hz 0 c).after 0 t)
    ∗ owns (c : Thread nD τ) (ms0_1 t) fullShare ((dats m hz 0 c).after 1 t)
    ∗ owns (c : Thread nD τ) (ms0_2 t) fullShare ((dats m hz 0 c).after 2 t)
    ∗ owns (c : Thread nD τ) (ms0_3 t) fullShare ((dats m hz 0 c).after 3 t)
    ∗ owns (c : Thread nD τ) (ms0_4 t) fullShare ((dats m hz 0 c).after 4 t)
    ∗ owns (c : Thread nD τ) (ms0_5 t) fullShare ((dats m hz 0 c).after 5 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hz : ∀ (c : Dev nD) (t : Fin cfg0.N), flagsZero (iblk m c 0 t)) (c : Dev nD) (t : Fin cfg0.N) :
    bodyPre m hz c t ⊢ wp frame (wpE (defs₀ (F := F)) Variants.none c none) Set.univ (bodyAt0 t) (fun _ => bodyPost m hz c t) := by
  unfold bodyPre bodyPost bodyAt0
  simp only [before0_0, before0_1, before0_2, before0_3, before0_4]
  rw [show (dats m hz 0 c).Φ t.succ = (dats m hz 0 c).Φ t.castSucc from rfl,
    after0_0, after0_1, after0_2, after0_3, after0_4, after0_5]
  rw [show (dats m hz 0 c).Φ t.castSucc = Pipeline.ΦD osem0 spec0 H0 (V m) c from rfl, PhiD0_eq]
  unfold Dat.owesAt Pipeline.owesWithin
  rw [show (dats m hz 0 c).owed t.castSucc = 0 from rfl, show (dats m hz 0 c).owed t.succ = 0 from rfl]
  unfold outsAt0
  unfold out0_A_5
  iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ (iblk m c 0 t) (iblk m c 1 t) (iblk m c 2 t) (iblk m c 3 t) (iblk m c 4 t) (V m c main_arg5) (V m c main_arg6) (hA_of _ _ _ (hz c t)) (hB_of _ _ _ (hz c t))).2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, ⟨%e5, H5⟩, HS0, HS1, HS2, Hq0, Hq1, Hh0, Hh1, ⟨%W', HW'⟩⟩
  isplitl [HS0 HS1 HS2 Hg Hq0 Hq1 Hh0 Hh1]
  · isplitl [HS0 HS1 HS2]
    · isplitl [HS0]; · iexact HS0
      isplitl [HS1]; · iexact HS1
      iexact HS2
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hz : ∀ (c : Dev nD) (t : Fin cfg0.N), flagsZero (iblk m c 0 t)) (c : Dev nD) : BodyObligation (dats (F := F) m hz 0 c) (defs₀ (F := F)) Variants.none () Set.univ := fun t => by
  rw [bigSep_W0, bigSep_W0, defs₀_row]
  exact triple_restated (sound_body m hz c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hz : ∀ (c : Dev nD) (t : Fin cfg0.N), flagsZero (iblk m c 0 t)) : θ_run defs (onTc (τ := τ) (main (F := F))) (s₀ m ρ) (fun r => (Pipeline.FramePost cfgs (dats m hz) 0 (V m)) r ∧ r.2.sem = fun _ => 0) :=
  Pipeline.θ_run_frame_dma (Q' := _) cfgs (dats m hz) (0 : Fin 1) launch0 osem0 defs₀ Variants.none ownSemFacts0 H0 H0_sub m ρ main
    (hbody := fun c => (body_obligation m hz c).loose) (hshare := fun c => (dats m hz 0 c).share_full fun _ => rfl)
    (howed := fun _ _ => rfl) (V := V m) (hmain := hmain m Variants.none) (hA := A_eq m hz)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hz : ∀ (c : Dev nD) (t : Fin cfg0.N), flagsZero (iblk m c 0 t)) : θ_run defs (onTc (τ := τ) (main (F := F))) (s₀ m ρ) (Pipeline.FramePost cfgs (dats m hz) 0 (V m)) :=
  (θ_run defs _ _).mono (fun _ h => h.1) (run_main_quiescent m ρ hz)

/-- `frame` without the counters: the argument arrays end unchanged. -/
theorem unchanged (hz : ∀ (c : Dev nD) (t : Fin cfg0.N), flagsZero (iblk m c 0 t)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m hz) (A_eq m hz) (run_main m ρ hz)

/-- THE FRAME: `Cert.quiescent_SparseIdeal`'s statement (Defs.lean) at any `F`. -/
theorem frame (hz : ∀ (c : Dev nD) (t : Fin cfg0.N), flagsZero (iblk m c 0 t)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hz) ((θ_run defs _ _).mono (fun _ h => h.2) (run_main_quiescent m ρ hz))

end Cert.SparseIdeal.TableRun

end
-- ==== Proof.SparseIdeal.Tile.lean ====
/-
  One sixteen-row tile of the decoded outliers: two rows of bf16 values per sublane of a table, picked by the slots of a
  word of four packed slots.
-/
module

public import proofs.«01_k».proof.Proof.Gen.SparseIdeal
public import Idealize.ShloMosaic.Lib.Pointwise
public import Idealize.ShloMosaic.Lib.BitcastPair
public import Idealize.ShloMosaic.Lib.Pipeline.Value

@[expose] public section

set_option maxRecDepth 16384

noncomputable section

namespace Cert.SparseIdeal.Tile

open Cert.SparseIdeal Cert.SparseIdeal.Gen Idealize.ShloMosaic Idealize.ShloMosaic.TcCoe

variable {F : FTy → Type} [FloatOps F]

/-- The slots of one packed word per lane: shifted down by the block's parity, then by the byte, and cut to seven bits. -/
def slots (v s : BitVec 32) (w : Vec F S1x1x8x128 .i32) : IVec S8x128 32 :=
  andi (shrui (shrui (shapeCast S8x128 w shapeCasts_S1x1x8x128_S8x128) (broadcast S8x128 v)) (broadcast S8x128 s)) (broadcast S8x128 127#32)

/-- The table's words at the slots, each read as two bf16 values in two rows. -/
def picked (t : Vec F S1x1x1x8x128 .i32) (p : IVec S8x128 32) : FVec F S16x128 .bf16 :=
  bitcastToFloat .bf16 (bitcast S16x128 16 (dynamicGather 1 (shapeCast S8x128 t shapeCasts_S1x1x1x8x128_S8x128)
    (shapeCast S8x128 (shapeCast S8x128x1 p shapeCasts_S8x128_S8x128x1) shapeCasts_S8x128x1_S8x128)) bitcasts_S8x128_w32_S16x128_w16)

/-- The tile: the two bytes' picks side by side. -/
def tile (v : BitVec 32) (w : Vec F S1x1x8x128 .i32) (t : Vec F S1x1x1x8x128 .i32) : FVec F S16x256 .bf16 :=
  concatenate S16x256 1 [⟨S16x128, picked t (slots v 0#32 w)⟩, ⟨S16x128, picked t (slots v 8#32 w)⟩] concatenates_S16x128_S16x128_S16x256_d1

/-- A slot, elementwise. -/
theorem slots_apply (v s : BitVec 32) (w : Vec F S1x1x8x128 .i32) (a : Fin 8) (b : Fin 128) :
    slots v s w (ix2 a b) = IntOp.andi (IntOp.shrui .vector (IntOp.shrui .vector (w (ix4 0 0 a b)) v) s) 127#32 := by
  unfold slots
  pointwise

/-- The slot held at bit `e` of a packed word: seven bits. -/
def slot (x : BitVec 32) (e : ℕ) : Fin 128 := ⟨x.toNat / 2 ^ e % 128, Nat.mod_lt _ (by decide)⟩

/-- Two logical shifts down and a cut to seven bits read the slot at the shifts' sum. -/
theorem slot_shrui (x v s : BitVec 32) (hv : v.toNat < 32) (hs : s.toNat < 32) :
    (IntOp.andi (IntOp.shrui .vector (IntOp.shrui .vector x v) s) 127#32).toNat = (slot x (v.toNat + s.toNat)).val := by
  unfold IntOp.shrui IntOp.andi slot
  rw [if_pos hs, if_pos hv]
  show ((x >>> v) >>> s &&& 127#32).toNat = _
  rw [BitVec.toNat_and]
  show (x >>> v.toNat >>> s.toNat).toNat &&& (2 ^ 7 - 1) = _
  rw [Nat.and_two_pow_sub_one_eq_mod, BitVec.toNat_ushiftRight, BitVec.toNat_ushiftRight, ← Nat.shiftRight_add, Nat.shiftRight_eq_div_pow]

/-- One arithmetic shift down by at most 24 and a cut to seven bits read the slot at the shift. -/
theorem slot_shrsi (t : ArithUnit) (x v : BitVec 32) (hv : v.toNat ≤ 24) :
    (IntOp.andi (IntOp.shrsi t x v) 127#32).toNat = (slot x v.toNat).val := by
  have e : IntOp.andi (IntOp.shrsi t x v) 127#32 = (x >>> v.toNat) &&& 127#32 := by
    unfold IntOp.shrsi IntOp.andi
    rw [if_pos (by omega)]
    refine BitVec.eq_of_getLsbD_eq fun i hi => ?_
    rw [BitVec.getLsbD_and, BitVec.getLsbD_and]
    by_cases h7 : i < 7
    · congr 1
      show (x.sshiftRight v.toNat).getLsbD i = _
      rw [BitVec.getLsbD_sshiftRight, BitVec.getLsbD_ushiftRight, if_pos (by omega)]
      simp only [hi.not_ge, decide_false, Bool.not_false, Bool.true_and]
    · have h0 : (127#32).getLsbD i = false := by
        show (127 : ℕ).testBit i = false
        exact Nat.testBit_lt_two_pow (lt_of_lt_of_le (by decide : 127 < 2 ^ 7) (Nat.pow_le_pow_right (by decide) (by omega)))
      rw [h0, Bool.and_false, Bool.and_false]
  rw [e, BitVec.toNat_and]
  show (x >>> v.toNat).toNat &&& (2 ^ 7 - 1) = _
  rw [Nat.and_two_pow_sub_one_eq_mod, BitVec.toNat_ushiftRight, Nat.shiftRight_eq_div_pow]
  rfl

/-- Half `h` of a word of the table, as a bf16 value. -/
def half (x : BitVec 32) (h : ℕ) : F .bf16 := FloatOps.ofBits (F := F) .bf16 (x.extractLsb' (16 * h) 16)

/-- A pick, elementwise: row `2 a + h` is half `h` of the table's word in sublane `a`. -/
theorem picked_apply (t : Vec F S1x1x1x8x128 .i32) (p : IVec S8x128 32) (r : Fin 16) (b : Fin 128) (q : Fin 128)
    (hq : (p (ix2 ⟨r.val / 2, by omega⟩ b)).toNat = q.val) :
    picked t p (ix2 r b) = half (F := F) (t (ix5 0 0 0 ⟨r.val / 2, by omega⟩ q)) (r.val % 2) := by
  unfold picked half
  rw [bitcastToFloat_apply, bitcast_32_16]
  have e : ∀ hp, bitcasts_S8x128_w32_S16x128_w16.srcIdx (ix2 r b) (S16x128.row (ix2 r b) / 2) hp = ix2 ⟨r.val / 2, by omega⟩ b := by
    intro hp
    funext a
    apply Fin.ext
    match a with
    | ⟨0, _⟩ => rfl
    | ⟨1, _⟩ => rfl
  rw [e]
  pointwise
  congr 3
  refine congrArg (ix5 0 0 0 _) (Fin.ext ?_)
  show (p _).toNat % 128 = q.val
  rw [hq]
  exact Nat.mod_eq_of_lt q.isLt

/-- The tile, elementwise: row `2 a + h`, column `128 d + b` is half `h` of the table's word in sublane `a` at the slot held
    at bit `v + 8 d` of lane `b`'s packed word. -/
theorem tile_apply (v : BitVec 32) (hv : v.toNat < 32) (w : Vec F S1x1x8x128 .i32) (t : Vec F S1x1x1x8x128 .i32) (r : Fin 16) (n : Fin 256) :
    tile v w t (ix2 r n) = half (F := F) (t (ix5 0 0 0 ⟨r.val / 2, by omega⟩
      (slot (w (ix4 0 0 ⟨r.val / 2, by omega⟩ ⟨n.val % 128, by omega⟩)) (v.toNat + 8 * (n.val / 128))))) (r.val % 2) := by
  unfold tile
  by_cases hn : n.val < 128
  · have e0 : v.toNat + 8 * (n.val / 128) = v.toNat + (0#32).toNat := by
      rw [Nat.div_eq_of_lt hn]; rfl
    have em : n.val % 128 = n.val := Nat.mod_eq_of_lt hn
    rw [e0]
    pointwise
    rw [dif_pos hn]
    refine (picked_apply t _ r _ _ ?_)
    rw [slots_apply, slot_shrui _ _ _ hv (by decide)]
    simp only [em]
    rfl
  · have e0 : v.toNat + 8 * (n.val / 128) = v.toNat + (8#32).toNat := by
      rw [show n.val / 128 = 1 by omega]; rfl
    have em : n.val % 128 = n.val - 128 := by omega
    rw [e0]
    pointwise
    rw [dif_neg hn]
    refine (picked_apply t _ r _ _ ?_)
    rw [slots_apply, slot_shrui _ _ _ hv (by decide)]
    simp only [em]
    rfl

end Cert.SparseIdeal.Tile

end
-- ==== Proof.SparseIdeal.Block.lean ====
/-
  What one grid point of the outlier call leaves where no table overflowed: five products of 1024 columns of the
  activations with the decoded outliers, added in turn to the block of the dense product.
-/
module

public import proofs.«01_k».proof.Proof.SparseIdeal.TableFrame
public import proofs.«01_k».proof.Proof.SparseIdeal.Tile

@[expose] public section

set_option maxRecDepth 16384

noncomputable section

namespace Cert.SparseIdeal.Block

open Cert.SparseIdeal Cert.SparseIdeal.Tile Idealize.ShloMosaic Idealize.ShloMosaic.TcCoe
open Cert.SparseIdeal.Gen hiding hmain before0_0_of before0_1_of before0_2_of before0_3_of before0_4_of frame_of
open Cert.SparseIdeal.Run

variable {F : FTy → Type} [FloatOps F]

/-- The shift of a block: 16 in an odd block, 0 in an even one. -/
def parity (i : grid0.Coords) : BitVec 32 := Scalar.muli 16#32 (Scalar.andi (BitVec.ofNat 32 (i 0).val) 1#32)

theorem word_inb (u : Fin 160) : ∀ a, (![u.val, 0, 0, 0] : Fin 4 → Nat) a + S1x1x8x128.size a ≤ S160x1x8x128.size a := by
  intro a
  match a with
  | 0 => show u.val + 1 ≤ 160; omega
  | 1 => show 0 + 1 ≤ 1; omega
  | 2 => show 0 + 8 ≤ 8; omega
  | 3 => show 0 + 128 ≤ 128; omega

theorem table_inb (u : Fin 160) (j : Fin 2) : ∀ a, (![u.val, 0, j.val, 0, 0] : Fin 5 → Nat) a + S1x1x1x8x128.size a ≤ S160x1x2x8x128.size a := by
  intro a
  match a with
  | 0 => show u.val + 1 ≤ 160; omega
  | 1 => show 0 + 1 ≤ 1; omega
  | 2 => show j.val + 1 ≤ 2; omega
  | 3 => show 0 + 8 ≤ 8; omega
  | 4 => show 0 + 128 ≤ 128; omega

theorem act_inb (kc : Fin 5) : ∀ a, (![0, 1024 * kc.val] : Fin 2 → Nat) a + (![256, 1024] : Fin 2 → Nat) a ≤ S256x5120.size a := by
  intro a
  match a with
  | 0 => show 0 + 256 ≤ 256; omega
  | 1 => show 1024 * kc.val + 1024 ≤ 5120; omega

/-- The packed slots of unit `u`, as the body reads them. -/
def wordAt (arg3 : Memref sig .tc .vmem S160x1x8x128 .i32) (harg3 : arg3.IsWhole) (x2 : Vec F S160x1x8x128 .i32) (u : Fin 160) : Vec F S1x1x8x128 .i32 :=
  View.readAt (Elt F) arg3.view (Rect.unit (s := S160x1x8x128) ![u.val, 0, 0, 0] S1x1x8x128.size (word_inb u)).toLoadRect (harg3.unread x2)

/-- The table of unit `u` and pair `j`, as the body reads it. -/
def tableAt (arg4 : Memref sig .tc .vmem S160x1x2x8x128 .i32) (harg4 : arg4.IsWhole) (x3 : Vec F S160x1x2x8x128 .i32) (u : Fin 160) (j : Fin 2) : Vec F S1x1x1x8x128 .i32 :=
  View.readAt (Elt F) arg4.view (Rect.unit (s := S160x1x2x8x128) ![u.val, 0, j.val, 0, 0] S1x1x1x8x128.size (table_inb u j)).toLoadRect (harg4.unread x3)

/-- A chunk of 1024 columns of the activations, as the body reads it. -/
def actAt (arg2 : Memref sig .tc .vmem S256x5120 .bf16) (harg2 : arg2.IsWhole) (x1 : Vec F S256x5120 .bf16) (kc : Fin 5) : Vec F S256x1024 .bf16 :=
  View.readAt (Elt F) arg2.view (Rect.unit (s := S256x5120) ![0, 1024 * kc.val] ![256, 1024] (act_inb kc)).toLoadRect (harg2.unread x1)

/-- The block of the dense product, as the body reads it. -/
def baseAt (arg5 : Memref sig .tc .vmem S256x256 .f32) (harg5 : arg5.IsWhole) (x4 : Vec F S256x256 .f32) : Vec F S256x256 .f32 :=
  View.readAt (Elt F) arg5.view (Rect.unit (s := S256x256) ![0, 0] ![256, 256] inb_S256x256_S256x256_0_0).toLoadRect (harg5.unread x4)

/-- The tile of rows `16 p … 16 p + 15` of the outliers' block: unit `p / 2`, pair `p % 2`. -/
def tileAt (i : grid0.Coords) (arg3 : Memref sig .tc .vmem S160x1x8x128 .i32) (harg3 : arg3.IsWhole) (arg4 : Memref sig .tc .vmem S160x1x2x8x128 .i32) (harg4 : arg4.IsWhole) (x2 : Vec F S160x1x8x128 .i32) (x3 : Vec F S160x1x2x8x128 .i32) (p : Fin 320) : FVec F S16x256 .bf16 :=
  tile (parity i) (wordAt arg3 harg3 x2 ⟨p.val / 2, by omega⟩) (tableAt arg4 harg4 x3 ⟨p.val / 2, by omega⟩ ⟨p.val % 2, by omega⟩)

/-- A chunk of 1024 rows of the outliers' block: 64 tiles one below the other. -/
def chunk (i : grid0.Coords) (arg3 : Memref sig .tc .vmem S160x1x8x128 .i32) (harg3 : arg3.IsWhole) (arg4 : Memref sig .tc .vmem S160x1x2x8x128 .i32) (harg4 : arg4.IsWhole) (x2 : Vec F S160x1x8x128 .i32) (x3 : Vec F S160x1x2x8x128 .i32) (kc : Fin 5) : FVec F S1024x256 .bf16 :=
  concatenate S1024x256 0 (List.ofFn fun q : Fin 64 => (⟨S16x256, tileAt i arg3 harg3 arg4 harg4 x2 x3 ⟨64 * kc.val + q.val, by omega⟩⟩ : (s : Shape) × (s.Idx → F .bf16)))
    concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S1024x256_d0

/-- One chunk's product added to the accumulator. -/
def step (acc : FVec F S256x256 .f32) (x : Vec F S256x1024 .bf16) (w : FVec F S1024x256 .bf16) : FVec F S256x256 .f32 :=
  addf acc (matmul dot_S256x1024_S1024x256_S256x256_1_0_0_1_n_n none (shapeCast S256x1024 x shapeCasts_S256x1024_S256x1024) w (constant S256x256 .f32 0x00000000#32))

/-- The five chunks in turn, from the block of the dense product, rounded to bf16. -/
def body (i : grid0.Coords) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole)
    (x1 : Vec F S256x5120 .bf16) (x2 : Vec F S160x1x8x128 .i32) (x3 : Vec F S160x1x2x8x128 .i32) (x4 : Vec F S256x256 .f32) : FVec F S256x256 .bf16 :=
  truncf .bf16 (step (step (step (step (step (baseAt arg5 harg5 x4)
    (actAt arg2 harg2 x1 0) (chunk i arg3 harg3 arg4 harg4 x2 x3 0)) (actAt arg2 harg2 x1 1) (chunk i arg3 harg3 arg4 harg4 x2 x3 1)) (actAt arg2 harg2 x1 2) (chunk i arg3 harg3 arg4 harg4 x2 x3 2))
    (actAt arg2 harg2 x1 3) (chunk i arg3 harg3 arg4 harg4 x2 x3 3)) (actAt arg2 harg2 x1 4) (chunk i arg3 harg3 arg4 harg4 x2 x3 4)) bitsLt_bf16_f32

/-- The run's one store is that value. -/
theorem run_eq (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    (hA : Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)
    (hB : ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1)) :
    (kernelRun0_A c i arg1 harg1 arg2 harg2 arg3 harg3 arg4 harg4 arg5 harg5 arg8 harg8 arg9 harg9 arg10 harg10 arg11 harg11 x0 x1 x2 x3 x4 fh0 fh1 hA hB).1
      = [⟨Rect.unit ![0, 0] ![256, 256] inb_S256x256_S256x256_0_0, body i arg2 harg2 arg3 harg3 arg4 harg4 arg5 harg5 x1 x2 x3 x4⟩] := by
  rfl

end Cert.SparseIdeal.Block

end
-- ==== Proof.SparseIdeal.BlockValue.lean ====
/-
  What one grid point of the outlier call leaves where no table overflowed, element by element over the extended reals:
  the dense product's element plus an inner product over all 5120 rows of the decoded outliers.
-/
module

public import proofs.«01_k».proof.Proof.SparseIdeal.Block

@[expose] public section

set_option maxRecDepth 16384

noncomputable section

namespace Cert.SparseIdeal.BlockValue

open Cert.SparseIdeal Cert.SparseIdeal.Tile Cert.SparseIdeal.Block Idealize.ShloMosaic Idealize.ShloMosaic.TcCoe
open Cert.SparseIdeal.Gen hiding hmain before0_0_of before0_1_of before0_2_of before0_3_of before0_4_of frame_of
open Cert.SparseIdeal.Run

/-- The packed slots of a unit, elementwise. -/
theorem wordAt_apply (arg3 : Memref sig .tc .vmem S160x1x8x128 .i32) (harg3 : arg3.IsWhole) (x2 : Vec Ideal S160x1x8x128 .i32) (u : Fin 160)
    (a : Fin 8) (b : Fin 128) : wordAt arg3 harg3 x2 u (ix4 0 0 a b) = x2 (ix4 u 0 a b) := by
  unfold wordAt
  refine (harg3.readAt_unread x2 _ _).trans (congrArg x2 ?_)
  funext q
  apply Fin.ext
  refine (Rect.idx_unit_val _ _ _ _ _).trans ?_
  match q with
  | ⟨0, _⟩ => rfl
  | ⟨1, _⟩ => rfl
  | ⟨2, _⟩ => exact Nat.zero_add _
  | ⟨3, _⟩ => exact Nat.zero_add _

/-- The table of a unit and pair, elementwise. -/
theorem tableAt_apply (arg4 : Memref sig .tc .vmem S160x1x2x8x128 .i32) (harg4 : arg4.IsWhole) (x3 : Vec Ideal S160x1x2x8x128 .i32) (u : Fin 160)
    (j : Fin 2) (a : Fin 8) (b : Fin 128) : tableAt arg4 harg4 x3 u j (ix5 0 0 0 a b) = x3 (ix5 u 0 j a b) := by
  unfold tableAt
  refine (harg4.readAt_unread x3 _ _).trans (congrArg x3 ?_)
  funext q
  apply Fin.ext
  refine (Rect.idx_unit_val _ _ _ _ _).trans ?_
  match q with
  | ⟨0, _⟩ => rfl
  | ⟨1, _⟩ => rfl
  | ⟨2, _⟩ => rfl
  | ⟨3, _⟩ => exact Nat.zero_add _
  | ⟨4, _⟩ => exact Nat.zero_add _

/-- A chunk of the activations, elementwise. -/
theorem actAt_apply (arg2 : Memref sig .tc .vmem S256x5120 .bf16) (harg2 : arg2.IsWhole) (x1 : Vec Ideal S256x5120 .bf16) (kc : Fin 5)
    (r : Fin 256) (k : Fin 1024) : actAt arg2 harg2 x1 kc (ix2 r k) = x1 (ix2 r ⟨1024 * kc.val + k.val, by omega⟩) := by
  unfold actAt
  refine (harg2.readAt_unread x1 _ _).trans (congrArg x1 ?_)
  funext q
  apply Fin.ext
  refine (Rect.idx_unit_val _ _ _ _ _).trans ?_
  match q with
  | ⟨0, _⟩ => exact Nat.zero_add _
  | ⟨1, _⟩ => rfl

/-- The dense product's block, elementwise. -/
theorem baseAt_apply (arg5 : Memref sig .tc .vmem S256x256 .f32) (harg5 : arg5.IsWhole) (x4 : Vec Ideal S256x256 .f32)
    (r c : Fin 256) : baseAt arg5 harg5 x4 (ix2 r c) = x4 (ix2 r c) := by
  unfold baseAt
  refine (harg5.readAt_unread x4 _ _).trans (congrArg x4 ?_)
  funext q
  apply Fin.ext
  refine (Rect.idx_unit_val _ _ _ _ _).trans ?_
  match q with
  | ⟨0, _⟩ => exact Nat.zero_add _
  | ⟨1, _⟩ => exact Nat.zero_add _

/-- The decoded outlier at row `k`, column `c` of the block. -/
def entry (i : grid0.Coords) (x2 : Vec Ideal S160x1x8x128 .i32) (x3 : Vec Ideal S160x1x2x8x128 .i32) (k : Fin 5120) (c : Fin 256) : Ideal .bf16 :=
  half (F := Ideal) (x3 (ix5 ⟨k.val / 32, by omega⟩ 0 ⟨k.val / 16 % 2, by omega⟩ ⟨k.val / 2 % 8, by omega⟩
    (slot (x2 (ix4 ⟨k.val / 32, by omega⟩ 0 ⟨k.val / 2 % 8, by omega⟩ ⟨c.val % 128, by omega⟩)) ((parity i).toNat + 8 * (c.val / 128))))) (k.val % 2)

/-- The shift of a block is 16 times its parity. -/
theorem parity_val (i : grid0.Coords) : (parity i).toNat = 16 * ((i 0).val % 2) := by
  unfold parity Scalar.muli Scalar.andi IntOp.muli IntOp.andi
  have h : ((BitVec.ofNat 32 (i 0).val) &&& 1#32).toNat = (i 0).val % 2 := by
    rw [BitVec.toNat_and]
    show (BitVec.ofNat 32 (i 0).val).toNat &&& (2 ^ 1 - 1) = _
    rw [Nat.and_two_pow_sub_one_eq_mod, BitVec.toNat_ofNat]
    omega
  rw [BitVec.toNat_mul, h]
  show 16 * _ % 4294967296 = _
  omega

/-- A tile, elementwise. -/
theorem tileAt_apply (i : grid0.Coords) (arg3 : Memref sig .tc .vmem S160x1x8x128 .i32) (harg3 : arg3.IsWhole) (arg4 : Memref sig .tc .vmem S160x1x2x8x128 .i32) (harg4 : arg4.IsWhole)
    (x2 : Vec Ideal S160x1x8x128 .i32) (x3 : Vec Ideal S160x1x2x8x128 .i32) (p : Fin 320) (r : Fin 16) (c : Fin 256) :
    tileAt i arg3 harg3 arg4 harg4 x2 x3 p (ix2 r c) = entry i x2 x3 ⟨16 * p.val + r.val, by omega⟩ c := by
  have hp := parity_val i
  unfold tileAt
  rw [tile_apply _ (by omega), wordAt_apply, tableAt_apply]
  unfold entry
  have e1 : (16 * p.val + r.val) / 32 = p.val / 2 := by omega
  have e2 : (16 * p.val + r.val) / 16 % 2 = p.val % 2 := by omega
  have e3 : (16 * p.val + r.val) / 2 % 8 = r.val / 2 := by omega
  have e4 : (16 * p.val + r.val) % 2 = r.val % 2 := by omega
  simp only [e1, e2, e3, e4]

/-- A chunk of the outliers, elementwise. -/
theorem chunk_apply (i : grid0.Coords) (arg3 : Memref sig .tc .vmem S160x1x8x128 .i32) (harg3 : arg3.IsWhole) (arg4 : Memref sig .tc .vmem S160x1x2x8x128 .i32) (harg4 : arg4.IsWhole)
    (x2 : Vec Ideal S160x1x8x128 .i32) (x3 : Vec Ideal S160x1x2x8x128 .i32) (kc : Fin 5) (k : Fin 1024) (c : Fin 256) :
    chunk i arg3 harg3 arg4 harg4 x2 x3 kc (ix2 k c) = entry i x2 x3 ⟨1024 * kc.val + k.val, by omega⟩ c := by
  unfold chunk
  refine (concatenate_ofFn_apply (t := S1024x256) (s₁ := S16x256) 0
    (fun q : Fin 64 => tileAt i arg3 harg3 arg4 harg4 x2 x3 ⟨64 * kc.val + q.val, by omega⟩) _ rfl 16 rfl (ix2 k c) ⟨k.val / 16, by omega⟩ rfl
    (ix2 ⟨k.val % 16, by omega⟩ c) rfl ?_).trans ?_
  · intro b hb
    match b with
    | ⟨0, _⟩ => exact absurd rfl hb
    | ⟨1, _⟩ => rfl
  · rw [tileAt_apply]
    congr 1
    apply Fin.ext
    show 16 * (64 * kc.val + k.val / 16) + k.val % 16 = 1024 * kc.val + k.val
    omega

/-- One chunk's product, elementwise. -/
theorem step_apply (acc : FVec Ideal S256x256 .f32) (x : Vec Ideal S256x1024 .bf16) (w : FVec Ideal S1024x256 .bf16) (r c : Fin 256) :
    step acc x w (ix2 r c) = (acc (ix2 r c) + ∑ k : Fin 1024, x (ix2 r k) * w (ix2 k c) : EReal) := by
  pointwise [step]

/-- Rounding to bf16 keeps an extended real. -/
theorem trunc_apply (y : FVec Ideal S256x256 .f32) (r c : Fin 256) : truncf .bf16 y bitsLt_bf16_f32 (ix2 r c) = y (ix2 r c) := by
  pointwise

/-- The block's value, elementwise. -/
theorem body_apply (i : grid0.Coords) (arg2 : Memref sig .tc .vmem S256x5120 .bf16) (harg2 : arg2.IsWhole) (arg3 : Memref sig .tc .vmem S160x1x8x128 .i32) (harg3 : arg3.IsWhole)
    (arg4 : Memref sig .tc .vmem S160x1x2x8x128 .i32) (harg4 : arg4.IsWhole) (arg5 : Memref sig .tc .vmem S256x256 .f32) (harg5 : arg5.IsWhole)
    (x1 : Vec Ideal S256x5120 .bf16) (x2 : Vec Ideal S160x1x8x128 .i32) (x3 : Vec Ideal S160x1x2x8x128 .i32) (x4 : Vec Ideal S256x256 .f32) (r c : Fin 256) :
    body i arg2 harg2 arg3 harg3 arg4 harg4 arg5 harg5 x1 x2 x3 x4 (ix2 r c)
      = (x4 (ix2 r c) + ∑ k : Fin 5120, x1 (ix2 r k) * entry i x2 x3 k c : EReal) := by
  have hc : ∀ kc : Fin 5, (∑ k : Fin 1024, actAt arg2 harg2 x1 kc (ix2 r k) * chunk i arg3 harg3 arg4 harg4 x2 x3 kc (ix2 k c) : EReal)
      = ∑ k : Fin 1024, x1 (ix2 r ⟨1024 * kc.val + k.val, by omega⟩) * entry i x2 x3 ⟨1024 * kc.val + k.val, by omega⟩ c := fun kc =>
    Finset.sum_congr rfl fun k _ => by rw [actAt_apply, chunk_apply]
  unfold body
  rw [trunc_apply, step_apply, step_apply, step_apply, step_apply, step_apply, baseAt_apply, hc, hc, hc, hc, hc]
  rw [Fin.sum_univ_tiles 5 1024 rfl, Fin.sum_univ_five]
  rw [← add_assoc, ← add_assoc, ← add_assoc, ← add_assoc]
  rfl

end Cert.SparseIdeal.BlockValue

end
-- ==== Proof.SparseIdeal.Array.lean ====
/-
  The outlier call's result array where no table overflowed: every element is the dense product's element plus the inner
  product of its row of activations with its column of decoded outliers.
-/
module

public import proofs.«01_k».proof.Proof.SparseIdeal.BlockValue

@[expose] public section

set_option maxRecDepth 16384

noncomputable section

namespace Cert.SparseIdeal.Array

open Cert.SparseIdeal Cert.SparseIdeal.Tile Cert.SparseIdeal.Block Cert.SparseIdeal.BlockValue Cert.SparseIdeal.TableRun
open Idealize.ShloMosaic Idealize.ShloMosaic.TcCoe Idealize.SL.Sem
open Cert.SparseIdeal.Gen hiding hmain before0_0_of before0_1_of before0_2_of before0_3_of before0_4_of frame_of
open Cert.SparseIdeal.Run
open Idealize.ShloMosaic.Pipeline (Dat)

variable (m : (ℓ : Loc nD τ sig) → Buf (Elt Ideal) ℓ) (ρ : Dev nD → PrngReg)

/-- The decoded outlier at row `k`, column `n`: the half `k % 2` of the word that the column's table for the row holds at the
    row's and column's slot. -/
def outlier (idx : Vec Ideal S2293760 .i32) (tab : Vec Ideal S1310720 .i32) (k : Fin 5120) (n : Fin 6912) : Ideal .bf16 :=
  half (F := Ideal) (tab (ix1 ⟨(((k.val / 32 * 4 + n.val / 2048) * 2 + k.val / 16 % 2) * 8 + k.val / 2 % 8) * 128
      + (slot (idx (ix1 ⟨((k.val / 32 * 14 + n.val / 512) * 8 + k.val / 2 % 8) * 128 + n.val % 128, by omega⟩)) (8 * (n.val / 128 % 4))).val,
      by have := (slot (idx (ix1 ⟨((k.val / 32 * 14 + n.val / 512) * 8 + k.val / 2 % 8) * 128 + n.val % 128, by omega⟩)) (8 * (n.val / 128 % 4))).isLt; omega⟩)) (k.val % 2)

/-- The dense product plus the activations times the decoded outliers, element by element. -/
def total (x : Vec Ideal S256x1x5120 .bf16) (idx : Vec Ideal S2293760 .i32) (tab : Vec Ideal S1310720 .i32)
    (y : Vec Ideal S256x6912 .f32) : Vec Ideal S256x6912 .bf16 :=
  fun i => (y (ix2 (i 0) (i 1)) + ∑ k : Fin 5120, x (ix3 (i 0) 0 k) * outlier idx tab k (i 1) : EReal)

/-- Argument 1 as its window's array: reshaped. -/
theorem V_main_v0 (c : Dev nD) : V m c main_v0 = shapeCast S256x5120 (m ((c : Thread nD τ).loc main_arg1)) shapeCasts_S256x1x5120_S256x5120 := by
  show StableHlo.after hostOps0 (fun b => m (c, b)) (Proc.devRef .tc main_v0) = _
  after_results_simp
  rfl

/-- Argument 2 as its window's array: reshaped. -/
theorem V_main_v1 (c : Dev nD) : V m c main_v1 = shapeCast S160x14x8x128 (m ((c : Thread nD τ).loc main_arg2)) shapeCasts_S2293760_S160x14x8x128 := by
  show StableHlo.after hostOps0 (fun b => m (c, b)) (Proc.devRef .tc main_v1) = _
  after_results_simp
  rfl

/-- Argument 3 as its window's array: reshaped. -/
theorem V_main_v2 (c : Dev nD) : V m c main_v2 = shapeCast S160x4x2x8x128 (m ((c : Thread nD τ).loc main_arg3)) shapeCasts_S1310720_S160x4x2x8x128 := by
  show StableHlo.after hostOps0 (fun b => m (c, b)) (Proc.devRef .tc main_v2) = _
  after_results_simp
  rfl

/-- Dropping the unit axis keeps every element. -/
theorem squeeze_apply (x : Vec Ideal S256x1x5120 .bf16) (r : Fin 256) (k : Fin 5120) :
    shapeCast S256x5120 x shapeCasts_S256x1x5120_S256x5120 (ix2 r k) = x (ix3 r 0 k) := by
  pointwise

/-- The packed slots by unit, block pair, sublane and lane. -/
theorem words_apply (x : Vec Ideal S2293760 .i32) (u : Fin 160) (g : Fin 14) (a : Fin 8) (b : Fin 128) :
    shapeCast S160x14x8x128 x shapeCasts_S2293760_S160x14x8x128 (ix4 u g a b) = x (ix1 ⟨((u.val * 14 + g.val) * 8 + a.val) * 128 + b.val, by omega⟩) := by
  pointwise
  refine congrArg x (congrArg ix1 (Fin.ext ?_))
  dsimp only
  omega

/-- The tables by unit, column group, pair, sublane and slot. -/
theorem tables_apply (x : Vec Ideal S1310720 .i32) (u : Fin 160) (g : Fin 4) (j : Fin 2) (a : Fin 8) (b : Fin 128) :
    shapeCast S160x4x2x8x128 x shapeCasts_S1310720_S160x4x2x8x128 (ix5 u g j a b) = x (ix1 ⟨(((u.val * 4 + g.val) * 2 + j.val) * 8 + a.val) * 128 + b.val, by omega⟩) := by
  pointwise
  refine congrArg x (congrArg ix1 (Fin.ext ?_))
  dsimp only
  omega

/-- Window 0's block index at a grid point. -/
theorem index0 : ∀ t : Fin cfg0.N, win0_0.index t 0 = 0 :=
  (by decide +kernel : ∀ t : Fin grid0.N, _)
/-- Window 1's block index at a grid point. -/
theorem index1 : ∀ t : Fin cfg0.N, win0_1.index t 0 = 0 ∧ win0_1.index t 1 = 0 :=
  (by decide +kernel : ∀ t : Fin grid0.N, _)
/-- Window 2's block index at a grid point. -/
theorem index2 : ∀ t : Fin cfg0.N, win0_2.index t 0 = 0 ∧ win0_2.index t 1 = t.val / 2 ∧ win0_2.index t 2 = 0 ∧ win0_2.index t 3 = 0 :=
  (by decide +kernel : ∀ t : Fin grid0.N, _)
/-- Window 3's block index at a grid point. -/
theorem index3 : ∀ t : Fin cfg0.N, win0_3.index t 0 = 0 ∧ win0_3.index t 1 = t.val / 8 ∧ win0_3.index t 2 = 0 ∧ win0_3.index t 3 = 0 ∧ win0_3.index t 4 = 0 :=
  (by decide +kernel : ∀ t : Fin grid0.N, _)
/-- Window 4's block index at a grid point. -/
theorem index4 : ∀ t : Fin cfg0.N, win0_4.index t 0 = 0 ∧ win0_4.index t 1 = t.val :=
  (by decide +kernel : ∀ t : Fin grid0.N, _)
/-- Window 5's block index at a grid point. -/
theorem index5 : ∀ t : Fin cfg0.N, win0_5.index t 0 = 0 ∧ win0_5.index t 1 = t.val :=
  (by decide +kernel : ∀ t : Fin grid0.N, _)
/-- The grid point's one coordinate is its number. -/
theorem coord : ∀ t : Fin cfg0.N, ((grid0.coords t) 0).val = t.val :=
  (by decide +kernel : ∀ t : Fin grid0.N, _)

/-- The grid has 27 points. -/
theorem lt27 (t : Fin cfg0.N) : t.val < 27 := t.isLt

/-- Column `c` of block `t`. -/
def col (t : Fin cfg0.N) (c : Fin 256) : Fin 6912 := ⟨t.val * 256 + c.val, by have := lt27 t; omega⟩

/-- The flags' block is the whole array. -/
theorem iblk0 (c : Dev nD) (t : Fin cfg0.N) (k : Fin 512) :
    (iblk m c 0 t : Vec Ideal S512 .i32) (ix1 k) = (m ((c : Thread nD τ).loc main_arg0) : Vec Ideal S512 .i32) (ix1 k) := by
  have ht := lt27 t
  rw [← V_main_arg0 m c]
  unfold Gen.iblk
  rw [View.read_apply]
  show V m c main_arg0 _ = V m c main_arg0 _
  congr 1
  funext q
  apply Fin.ext
  match q with
  | ⟨0, _⟩ => show win0_0.index t 0 * 512 + 1 * k.val = k.val; rw [(index0 t)]; omega

/-- The activations' block is the whole array. -/
theorem iblk1 (c : Dev nD) (t : Fin cfg0.N) (r : Fin 256) (k : Fin 5120) :
    (iblk m c 1 t : Vec Ideal S256x5120 .bf16) (ix2 r k) = (m ((c : Thread nD τ).loc main_arg1) : Vec Ideal S256x1x5120 .bf16) (ix3 r 0 k) := by
  have ht := lt27 t
  rw [← squeeze_apply (m ((c : Thread nD τ).loc main_arg1)) r k, ← V_main_v0 m c]
  unfold Gen.iblk
  rw [View.read_apply]
  show V m c main_v0 _ = V m c main_v0 _
  congr 1
  funext q
  apply Fin.ext
  match q with
  | ⟨0, _⟩ => show win0_1.index t 0 * 256 + 1 * r.val = r.val; rw [(index1 t).1]; omega
  | ⟨1, _⟩ => show win0_1.index t 1 * 5120 + 1 * k.val = k.val; rw [(index1 t).2]; omega

/-- The packed slots' block is one pair of column blocks. -/
theorem iblk2 (c : Dev nD) (t : Fin cfg0.N) (u : Fin 160) (a : Fin 8) (b : Fin 128) :
    (iblk m c 2 t : Vec Ideal S160x1x8x128 .i32) (ix4 u 0 a b) = (m ((c : Thread nD τ).loc main_arg2) : Vec Ideal S2293760 .i32) (ix1 ⟨((u.val * 14 + t.val / 2) * 8 + a.val) * 128 + b.val, by have := lt27 t; omega⟩) := by
  have ht := lt27 t
  rw [← words_apply (m ((c : Thread nD τ).loc main_arg2)) u ⟨t.val / 2, by omega⟩ a b, ← V_main_v1 m c]
  unfold Gen.iblk
  rw [View.read_apply]
  show V m c main_v1 _ = V m c main_v1 _
  congr 1
  funext q
  apply Fin.ext
  match q with
  | ⟨0, _⟩ => show win0_2.index t 0 * 160 + 1 * u.val = u.val; rw [(index2 t).1]; omega
  | ⟨1, _⟩ => show win0_2.index t 1 * 1 + 1 * 0 = t.val / 2; rw [(index2 t).2.1]; omega
  | ⟨2, _⟩ => show win0_2.index t 2 * 8 + 1 * a.val = a.val; rw [(index2 t).2.2.1]; omega
  | ⟨3, _⟩ => show win0_2.index t 3 * 128 + 1 * b.val = b.val; rw [(index2 t).2.2.2]; omega

/-- The tables' block is one group of eight column blocks. -/
theorem iblk3 (c : Dev nD) (t : Fin cfg0.N) (u : Fin 160) (j : Fin 2) (a : Fin 8) (b : Fin 128) :
    (iblk m c 3 t : Vec Ideal S160x1x2x8x128 .i32) (ix5 u 0 j a b) = (m ((c : Thread nD τ).loc main_arg3) : Vec Ideal S1310720 .i32) (ix1 ⟨(((u.val * 4 + t.val / 8) * 2 + j.val) * 8 + a.val) * 128 + b.val, by have := lt27 t; omega⟩) := by
  have ht := lt27 t
  rw [← tables_apply (m ((c : Thread nD τ).loc main_arg3)) u ⟨t.val / 8, by omega⟩ j a b, ← V_main_v2 m c]
  unfold Gen.iblk
  rw [View.read_apply]
  show V m c main_v2 _ = V m c main_v2 _
  congr 1
  funext q
  apply Fin.ext
  match q with
  | ⟨0, _⟩ => show win0_3.index t 0 * 160 + 1 * u.val = u.val; rw [(index3 t).1]; omega
  | ⟨1, _⟩ => show win0_3.index t 1 * 1 + 1 * 0 = t.val / 8; rw [(index3 t).2.1]; omega
  | ⟨2, _⟩ => show win0_3.index t 2 * 2 + 1 * j.val = j.val; rw [(index3 t).2.2.1]; omega
  | ⟨3, _⟩ => show win0_3.index t 3 * 8 + 1 * a.val = a.val; rw [(index3 t).2.2.2.1]; omega
  | ⟨4, _⟩ => show win0_3.index t 4 * 128 + 1 * b.val = b.val; rw [(index3 t).2.2.2.2]; omega

/-- The dense product's block is a block of columns. -/
theorem iblk4 (c : Dev nD) (t : Fin cfg0.N) (r j : Fin 256) :
    (iblk m c 4 t : Vec Ideal S256x256 .f32) (ix2 r j) = (m ((c : Thread nD τ).loc main_arg4) : Vec Ideal S256x6912 .f32) (ix2 r (col t j)) := by
  have ht := lt27 t
  rw [← V_main_arg4 m c]
  unfold Gen.iblk
  rw [View.read_apply]
  show V m c main_arg4 _ = V m c main_arg4 _
  congr 1
  funext q
  apply Fin.ext
  match q with
  | ⟨0, _⟩ => show win0_4.index t 0 * 256 + 1 * r.val = r.val; rw [(index4 t).1]; omega
  | ⟨1, _⟩ => show win0_4.index t 1 * 256 + 1 * j.val = t.val * 256 + j.val; rw [(index4 t).2]; omega

/-- The zero offsets of a whole-block access. -/
theorem hz2 : (![0, 0] : Fin 2 → Nat) = fun _ => 0 := funext fun a => by fin_cases a <;> rfl

/-- The result as contents of the result array. -/
abbrev result (c : Dev nD) : Buf (Elt Ideal) ((c : Thread nD τ).loc main_v3) :=
  total (m ((c : Thread nD τ).loc main_arg1)) (m ((c : Thread nD τ).loc main_arg2)) (m ((c : Thread nD τ).loc main_arg3))
    (m ((c : Thread nD τ).loc main_arg4))

/-- A whole-block write read back is what was written. -/
theorem read_block (f : VO0_5.ty.Contents (Elt Ideal)) (w : Vec Ideal S256x256 .bf16) :
    VO0_5.read (Elt Ideal) (VO0_5.writes (Elt Ideal) f [⟨Rect.unit ![0, 0] ![256, 256] inb_S256x256_S256x256_0_0, w⟩]) = w := by
  have hcov : ∀ y : S256x256.Idx, ∃ p ∈ [(⟨Rect.unit ![0, 0] ![256, 256] inb_S256x256_S256x256_0_0, w⟩ : Idealize.ShloMosaic.View.Piece (Elt Ideal) S256x256 .bf16)], y ∈ p.1.set :=
    fun y => ⟨_, List.mem_singleton.mpr rfl, View.mem_set_unit_zero (S := S256x256) hz2 inb_S256x256_S256x256_0_0 y⟩
  rw [View.read_writes_eq_canon _ _ _ hcov]
  exact View.canon_unit_zero hz2 _ _

/-- What a grid point leaves, as the block's value. -/
theorem outs_eq (hz : ∀ (c : Dev nD) (t : Fin cfg0.N), flagsZero (iblk m c 0 t)) (c : Dev nD) (t : Fin cfg0.N) :
    outsAt0 m hz c t = body (grid0.coords t) (ms0_1 t) (hs0_1 t) (ms0_2 t) (hs0_2 t) (ms0_3 t) (hs0_3 t) (ms0_4 t) (hs0_4 t)
      (iblk m c 1 t) (iblk m c 2 t) (iblk m c 3 t) (iblk m c 4 t) := by
  unfold outsAt0 out0_A_5
  rw [run_eq, read_block]

/-- A block's decoded outlier is the array's. -/
theorem entry_eq (c : Dev nD) (t : Fin cfg0.N) (k : Fin 5120) (j : Fin 256) :
    entry (grid0.coords t) (iblk m c 2 t) (iblk m c 3 t) k j
      = outlier (m ((c : Thread nD τ).loc main_arg2)) (m ((c : Thread nD τ).loc main_arg3)) k (col t j) := by
  have ht := lt27 t
  unfold entry outlier
  rw [iblk2, iblk3, parity_val, coord]
  have e1 : (col t j).val / 512 = t.val / 2 := by show (t.val * 256 + j.val) / 512 = _; omega
  have e2 : (col t j).val / 2048 = t.val / 8 := by show (t.val * 256 + j.val) / 2048 = _; omega
  have e3 : (col t j).val % 128 = j.val % 128 := by show (t.val * 256 + j.val) % 128 = _; omega
  have e4 : 8 * ((col t j).val / 128 % 4) = 16 * (t.val % 2) + 8 * (j.val / 128) := by show 8 * ((t.val * 256 + j.val) / 128 % 4) = _; omega
  simp only [e1, e2, e3, e4]

/-- What a grid point leaves, read at an index of its block. -/
theorem out_block (hz : ∀ (c : Dev nD) (t : Fin cfg0.N), flagsZero (iblk m c 0 t)) (c : Dev nD) (t : Fin cfg0.N) (r j : Fin 256) :
    outsAt0 m hz c t (ix2 r j) = result m c (ix2 r (col t j)) := by
  rw [outs_eq, body_apply]
  show (_ : EReal) = total _ _ _ _ _
  unfold total
  rw [iblk4]
  refine congrArg₂ (· + ·) rfl ?_
  exact Finset.sum_congr rfl fun k _ => by
    rw [iblk1, entry_eq]
    rfl

/-- What point `t` writes back is its block of the result. -/
theorem flushed_eq (hz : ∀ (c : Dev nD) (t : Fin cfg0.N), flagsZero (iblk m c 0 t)) (c : Dev nD) (t : Fin cfg0.N) :
    (dats m hz 0 c).flushed 5 t = ((cfg0.win 5).blk t).view.read (Elt Ideal) (result m c) := by
  show (cfg0.win 5).cut (grid0.coords t) ((dats m hz 0 c).after 5 t) = _
  rw [after0_5]
  funext j
  rw [View.read_apply]
  show outsAt0 m hz c t _ = result m c _
  obtain ⟨r, q, rfl⟩ : ∃ (r : Fin 256) (q : Fin 256), j = ix2 r q := ⟨j 0, j 1, eq_ix2 j⟩
  refine Eq.trans ?_ ((out_block m hz c t r q).trans ?_)
  · congr 1
  · congr 1
    funext a
    apply Fin.ext
    match a with
    | ⟨0, _⟩ => show r.val = win0_5.index t 0 * 256 + 1 * r.val; rw [(index5 t).1]; omega
    | ⟨1, _⟩ => show t.val * 256 + q.val = win0_5.index t 1 * 256 + 1 * q.val; rw [(index5 t).2]; omega

/-- The blocks cover the result array. -/
theorem cover (i : S256x6912.Idx) : ∃ t : Fin cfg0.N, (cfg0.win 5).flush t = true ∧ i ∈ ((cfg0.win 5).blk t).view.set := by
  have h0 : (i 0 : Nat) < 256 := (i 0).isLt
  have h1 : (i 1 : Nat) < 6912 := (i 1).isLt
  have hN : cfg0.N = 27 := rfl
  refine ⟨⟨(i 1 : Nat) / 256, by omega⟩, flush0_5 _, ?_⟩
  generalize ht : (⟨(i 1 : Nat) / 256, _⟩ : Fin cfg0.N) = t
  have htv : t.val = (i 1 : Nat) / 256 := by rw [← ht]
  show i ∈ ((View.whole main_v3).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [(index5 t).1]; omega
  | ⟨1, _⟩ =>
    show win0_5.index t 1 * 256 ≤ (i 1 : Nat) ∧ (i 1 : Nat) < win0_5.index t 1 * 256 + 256
    rw [(index5 t).2]; omega

/-- So the result array ends holding the result. -/
theorem final (hz : ∀ (c : Dev nD) (t : Fin cfg0.N), flagsZero (iblk m c 0 t)) (c : Dev nD) : (dats m hz 0 c).arrAt 5 cfg0.N = result m c :=
  (dats m hz 0 c).arrAt_eq_of_cover 5 (result m c) (fun t _ => flushed_eq m hz c t) cover

/-- The run where no table overflowed: the result array at the result, the arguments unchanged. -/
theorem run (hz : ∀ (c : Dev nD) (t : Fin cfg0.N), flagsZero (iblk m c 0 t)) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 5).trans (final m hz c), h.2 c⟩) (θ_run_and (run_main m ρ hz) (unchanged m ρ hz))

end Cert.SparseIdeal.Array

end
-- ==== Proof.SparseRef.lean ====
/-
  The outlier call's reference, element by element, and its equality with the kernel's result where no table overflowed.
-/
module

public import proofs.«01_k».proof.Proof.SparseIdeal.Array
public import proofs.«01_k».proof.Proof.Gen.SparseReferenceIdeal.Run
public import Idealize.ShloMosaic.Lib.BitcastConvert
public import Idealize.ShloMosaic.Lib.ValueIdxCore

@[expose] public section

set_option maxRecDepth 16384

noncomputable section

namespace Cert.SparseReferenceIdeal.SparseRef

open Cert.SparseReferenceIdeal Cert.SparseReferenceIdeal.Gen Idealize.ShloMosaic Idealize.ShloMosaic.TcCoe
open Cert.SparseIdeal.Tile (slot slot_shrsi half)
open Cert.SparseIdeal.Array (outlier total)

/-- The slots: each packed word shifted down to each of its four bytes, cut to seven bits. -/
abbrev slots (idx : IVec S2293760 32) : IVec S160x14x4x8x128 32 :=
  andi (Host.shrsi (broadcastInDim S160x14x4x8x128 ![0, 1, 2, 3, 4] bcast_S160x14x1x8x128_S160x14x4x8x128_0_1_2_3_4 (shapeCast S160x14x1x8x128 idx shapeCasts_S2293760_S160x14x1x8x128)) (broadcastInDim S160x14x4x8x128 ![0, 1, 2, 3, 4] bcast_S1x1x4x1x1_S160x14x4x8x128_0_1_2_3_4 (muli (broadcastInDim S1x1x4x1x1 ![] bcast_S_S1x1x4x1x1 (constantI S_ 32 8#32)) (shapeCast S1x1x4x1x1 (iotaInDim S4 32 0) shapeCasts_S4_S1x1x4x1x1)))) (broadcastInDim S160x14x4x8x128 ![] bcast_S_S160x14x4x8x128 (constantI S_ 32 127#32))

/-- The slots laid out by output column. -/
abbrev columns (p : IVec S160x14x4x8x128 32) : IVec S160x1x8x6912 32 :=
  extractStridedSlice S160x1x8x6912 ![0, 0, 0, 0] (shapeCast S160x1x8x7168 (transpose S160x8x14x4x128 [0, 3, 1, 2, 4] p transposes_S160x14x4x8x128_S160x8x14x4x128_0_3_1_2_4) shapeCasts_S160x8x14x4x128_S160x1x8x7168) slices_S160x1x8x7168_S160x1x8x6912_0_0_0_0

/-- Each entry's address in the tables. -/
abbrev address (q : IVec S160x1x8x6912 32) : IVec S160x2x8x6912x1 32 :=
  broadcastInDim S160x2x8x6912x1 ![0, 1, 2, 3] bcast_S160x2x8x6912_S160x2x8x6912x1_0_1_2_3 (addi (muli (addi (broadcastInDim S160x2x8x6912 ![0, 1, 2, 3] bcast_S160x2x1x6912_S160x2x8x6912_0_1_2_3 (muli (addi (broadcastInDim S160x2x1x6912 ![0, 1, 2, 3] bcast_S160x1x1x6912_S160x2x1x6912_0_1_2_3 (muli (addi (broadcastInDim S160x1x1x6912 ![0, 1, 2, 3] bcast_S160x1x1x1_S160x1x1x6912_0_1_2_3 (muli (shapeCast S160x1x1x1 (iotaInDim S160 32 0) shapeCasts_S160_S160x1x1x1) (broadcastInDim S160x1x1x1 ![] bcast_S_S160x1x1x1 (constantI S_ 32 4#32)))) (broadcastInDim S160x1x1x6912 ![0, 1, 2, 3] bcast_S1x1x1x6912_S160x1x1x6912_0_1_2_3 (shapeCast S1x1x1x6912 (Host.shrui (iotaInDim S6912 32 0) (broadcastInDim S6912 ![] bcast_S_S6912 (constantI S_ 32 11#32))) shapeCasts_S6912_S1x1x1x6912))) (broadcastInDim S160x1x1x6912 ![] bcast_S_S160x1x1x6912 (constantI S_ 32 2#32)))) (broadcastInDim S160x2x1x6912 ![0, 1, 2, 3] bcast_S1x2x1x1_S160x2x1x6912_0_1_2_3 (shapeCast S1x2x1x1 (iotaInDim S2 32 0) shapeCasts_S2_S1x2x1x1))) (broadcastInDim S160x2x1x6912 ![] bcast_S_S160x2x1x6912 (constantI S_ 32 8#32)))) (broadcastInDim S160x2x8x6912 ![0, 1, 2, 3] bcast_S1x1x8x1_S160x2x8x6912_0_1_2_3 (shapeCast S1x1x8x1 (iotaInDim S8 32 0) shapeCasts_S8_S1x1x8x1))) (broadcastInDim S160x2x8x6912 ![] bcast_S_S160x2x8x6912 (constantI S_ 32 128#32))) (broadcastInDim S160x2x8x6912 ![0, 1, 2, 3] bcast_S160x1x8x6912_S160x2x8x6912_0_1_2_3 q))

/-- The words at the addresses, each as two rows of bf16 values. -/
abbrev rows (w : IVec S160x2x8x6912 32) : FVec Ideal S5120x6912 .bf16 :=
  shapeCast S5120x6912 (transpose S160x2x8x2x6912 [0, 1, 2, 4, 3] (bitcastToFloat (F := Ideal) .bf16 (Host.bitcastConvertNarrow S160x2x8x6912x2 16 w splits_S160x2x8x6912_w32_S160x2x8x6912x2_w16)) transposes_S160x2x8x6912x2_S160x2x8x2x6912_0_1_2_4_3) shapeCasts_S160x2x8x2x6912_S5120x6912

/-- The reference's term. -/
abbrev refTerm (x : Vec Ideal S256x1x5120 .bf16) (idx : Vec Ideal S2293760 .i32) (tab : Vec Ideal S1310720 .i32) (y : Vec Ideal S256x6912 .f32) :
    Vec Ideal S256x6912 .bf16 :=
  truncf .bf16 (addf y (shapeCast S256x6912 (Host.dotGeneral (F := Ideal) (φ₁ := .bf16) (φ₂ := .bf16) dot_S256x1x5120_S5120x6912_S256x1x6912_2_0_01_1_n_n none x (rows (Host.gather gather_S1310720_S160x2x8x6912x1_S160x2x8x6912_n_0_n_n_0_4_1 tab (address (columns (slots idx)))))) shapeCasts_S256x1x6912_S256x6912)) bitsLt_bf16_f32

/-- A slot, elementwise. -/
theorem slots_apply (idx : IVec S2293760 32) (u : Fin 160) (g : Fin 14) (e : Fin 4) (s : Fin 8) (b : Fin 128) :
    (slots idx (ix5 u g e s b)).toNat = (slot (idx (ix1 ⟨((u.val * 14 + g.val) * 8 + s.val) * 128 + b.val, by omega⟩)) (8 * e.val)).val := by
  have hv : (IntOp.muli 8#32 (BitVec.ofNat 32 e.val)).toNat = 8 * e.val := by
    unfold IntOp.muli
    rw [BitVec.toNat_mul, BitVec.toNat_ofNat]
    show 8 * (e.val % 4294967296) % 4294967296 = _
    omega
  rw [← hv, ← slot_shrsi .host _ _ (by omega)]
  unfold slots
  pointwise
  refine congrArg (fun z => (IntOp.andi (IntOp.shrsi .host (idx z) _) 127#32).toNat) (congrArg ix1 (Fin.ext ?_))
  dsimp only
  omega

/-- The slots by column. -/
theorem columns_apply (p : IVec S160x14x4x8x128 32) (u : Fin 160) (s : Fin 8) (n : Fin 6912) :
    columns p (ix4 u 0 s n) = p (ix5 u ⟨n.val / 512, by omega⟩ ⟨n.val / 128 % 4, by omega⟩ s ⟨n.val % 128, by omega⟩) := by
  unfold columns
  pointwise

/-- An address, as a number. -/
theorem address_apply (q : IVec S160x1x8x6912 32) (u : Fin 160) (j : Fin 2) (s : Fin 8) (n : Fin 6912) (hq : (q (ix4 u 0 s n)).toNat < 128) :
    (address q (ix5 u j s n 0)).toNat = (((u.val * 4 + n.val / 2048) * 2 + j.val) * 8 + s.val) * 128 + (q (ix4 u 0 s n)).toNat := by
  unfold address
  pointwise
  have hn : (IntOp.shrui .host (BitVec.ofNat 32 n.val) 11#32).toNat = n.val / 2048 := by
    unfold IntOp.shrui
    rw [if_pos (by decide)]
    show (BitVec.ofNat 32 n.val >>> (11#32).toNat).toNat = _
    rw [BitVec.toNat_ushiftRight, Nat.shiftRight_eq_div_pow, BitVec.toNat_ofNat]
    show n.val % 4294967296 / 2048 = _
    omega
  unfold IntOp.addi IntOp.muli
  simp only [BitVec.toNat_add, BitVec.toNat_mul, BitVec.toNat_ofNat, hn]
  omega

/-- A decoded value, elementwise. -/
theorem rows_apply (w : IVec S160x2x8x6912 32) (k : Fin 5120) (n : Fin 6912) :
    rows w (ix2 k n) = half (F := Ideal) (w (ix4 ⟨k.val / 32, by omega⟩ ⟨k.val / 16 % 2, by omega⟩ ⟨k.val / 2 % 8, by omega⟩ n)) (k.val % 2) := by
  unfold rows half
  pointwise
  have e : splits_S160x2x8x6912_w32_S160x2x8x6912x2_w16.drop
      (ix5 ⟨k.val / 32, by omega⟩ ⟨k.val / 16 % 2, by omega⟩ ⟨k.val / 2 % 8, by omega⟩ n ⟨k.val % 2, by omega⟩)
      = ix4 ⟨k.val / 32, by omega⟩ ⟨k.val / 16 % 2, by omega⟩ ⟨k.val / 2 % 8, by omega⟩ n := by
    funext a
    apply Fin.ext
    match a with
    | ⟨0, _⟩ => rfl
    | ⟨1, _⟩ => rfl
    | ⟨2, _⟩ => rfl
    | ⟨3, _⟩ => rfl
  rw [e, Nat.mul_comm]

/-- A word taken from the tables at an address in range. -/
theorem take_apply (tab : IVec S1310720 32) (a : IVec S160x2x8x6912x1 32) (u : Fin 160) (j : Fin 2) (s : Fin 8) (n : Fin 6912)
    (v : Fin 1310720) (hv : (a (ix5 u j s n 0)).toNat = v.val) :
    Host.gather gather_S1310720_S160x2x8x6912x1_S160x2x8x6912_n_0_n_n_0_4_1 tab a (ix4 u j s n) = tab (ix1 v) := by
  unfold Host.gather
  congr 1
  funext q
  obtain rfl : q = 0 := Subsingleton.elim _ _
  refine Fin.ext ?_
  generalize hD : gather_S1310720_S160x2x8x6912x1_S160x2x8x6912_n_0_n_n_0_4_1 = D
  show D.start (ix4 u j s n) a 0 + D.batchCoord (ix4 u j s n) 0 + D.offCoord (ix4 u j s n) 0 = v.val
  subst hD
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1310720_S160x2x8x6912x1_S160x2x8x6912_n_0_n_n_0_4_1.startIndexMap from List.mem_singleton.mpr rfl)]
  have hsi : gather_S1310720_S160x2x8x6912x1_S160x2x8x6912_n_0_n_n_0_4_1.siIdx (ix4 u j s n) ⟨List.idxOf (0 : Fin 1) gather_S1310720_S160x2x8x6912x1_S160x2x8x6912_n_0_n_n_0_4_1.startIndexMap,
      List.idxOf_lt_length_iff.2 (List.mem_singleton.mpr rfl)⟩ = ix5 u j s n 0 := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  have hlt := v.isLt
  have ht : (a (ix5 u j s n 0)).toInt = (v.val : ℤ) := by
    rw [BitVec.toInt_eq_toNat_of_lt (by omega), hv]
  show min (a (ix5 u j s n 0)).toInt.toNat (1310720 - 1) = v.val
  rw [ht]
  show min v.val 1310719 = v.val
  omega

/-- The reference's decoded outlier is the array's. -/
theorem outlier_apply (idx : Vec Ideal S2293760 .i32) (tab : Vec Ideal S1310720 .i32) (k : Fin 5120) (n : Fin 6912) :
    rows (Host.gather gather_S1310720_S160x2x8x6912x1_S160x2x8x6912_n_0_n_n_0_4_1 tab (address (columns (slots idx)))) (ix2 k n) = outlier idx tab k n := by
  rw [rows_apply]
  unfold outlier
  have hs := slots_apply idx ⟨k.val / 32, by omega⟩ ⟨n.val / 512, by omega⟩ ⟨n.val / 128 % 4, by omega⟩ ⟨k.val / 2 % 8, by omega⟩ ⟨n.val % 128, by omega⟩
  rw [← columns_apply (slots idx)] at hs
  have hlt := (slot (idx (ix1 ⟨((k.val / 32 * 14 + n.val / 512) * 8 + k.val / 2 % 8) * 128 + n.val % 128, by omega⟩)) (8 * (n.val / 128 % 4))).isLt
  rw [take_apply tab _ _ _ _ _ ⟨_, _⟩ ((address_apply (columns (slots idx)) ⟨k.val / 32, by omega⟩ ⟨k.val / 16 % 2, by omega⟩ ⟨k.val / 2 % 8, by omega⟩ n (by rw [hs]; exact hlt)).trans (by rw [hs]))]

/-- The sum and the product, elementwise. -/
theorem sum_apply (x : Vec Ideal S256x1x5120 .bf16) (w : FVec Ideal S5120x6912 .bf16) (y : Vec Ideal S256x6912 .f32) (r : Fin 256) (n : Fin 6912) :
    truncf .bf16 (addf y (shapeCast S256x6912 (Host.dotGeneral (F := Ideal) (φ₁ := .bf16) (φ₂ := .bf16) dot_S256x1x5120_S5120x6912_S256x1x6912_2_0_01_1_n_n none x w) shapeCasts_S256x1x6912_S256x6912)) bitsLt_bf16_f32 (ix2 r n)
      = (y (ix2 r n) + ∑ k : Fin 5120, x (ix3 r 0 k) * w (ix2 k n) : EReal) := by
  pointwise

/-- The reference's result is the kernel's. -/
theorem refTerm_eq (x : Vec Ideal S256x1x5120 .bf16) (idx : Vec Ideal S2293760 .i32) (tab : Vec Ideal S1310720 .i32) (y : Vec Ideal S256x6912 .f32) :
    refTerm x idx tab y = total x idx tab y := by
  funext i
  obtain ⟨r, n, rfl⟩ : ∃ (r : Fin 256) (n : Fin 6912), i = ix2 r n := ⟨i 0, i 1, eq_ix2 i⟩
  refine (sum_apply x _ y r n).trans ?_
  unfold total
  refine congrArg₂ (· + ·) rfl (Finset.sum_congr rfl fun k _ => ?_)
  rw [outlier_apply]
  rfl

end Cert.SparseReferenceIdeal.SparseRef

end
-- ==== Proof.SparsePre.lean ====
/-
  The precondition read: no table overflowed.
-/
module

public import proofs.«01_k».proof.Proof.SparseIdeal.Array
public import proofs.«01_k».proof.Defs
public import proofs.«01_k».proof.Proof.Gen.Pre_tables_hold
public import Idealize.ShloMosaic.Lib.StableHlo.Predicate

@[expose] public section

set_option maxRecDepth 16384

noncomputable section

namespace Cert.SparseIdeal.Pre

open Idealize.ShloMosaic Idealize.ShloMosaic.TcCoe
open Cert.SparseIdeal.TableRun (flagsZero)

/-- The predicate at a table is the comparison of its first flag word with zero. -/
theorem fn_apply (x0 : IVec Cert.Pre_tables_hold.S512 32) (x1 : FVec Ideal Cert.Pre_tables_hold.S256x1x5120 .bf16) (x2 : IVec Cert.Pre_tables_hold.S2293760 32)
    (x3 : IVec Cert.Pre_tables_hold.S1310720 32) (x4 : FVec Ideal Cert.Pre_tables_hold.S256x6912 .f32) (x5 : IVec Cert.Pre_tables_hold.S5121 32) (x6 : IVec Cert.Pre_tables_hold.S276480 32) (k : Fin 32) :
    Cert.Pre_tables_hold.fn (F := Ideal) x0 x1 x2 x3 x4 x5 x6 (ix1 k) = IntOp.cmpi .eq (x0 (ix1 ⟨k.val * 16, by omega⟩)) 0#32 := by
  unfold Cert.Pre_tables_hold.fn
  pointwise

/-- Under the precondition every table's flag is zero. -/
theorem flags (m : (ℓ : Loc Cert.SparseIdeal.nD Cert.SparseIdeal.τ Cert.SparseIdeal.sig) → Buf (Elt Ideal) ℓ) (h : Cert.Pre_SparseIdeal_tables_hold m)
    (c : Dev Cert.SparseIdeal.nD) (t : Fin Cert.SparseIdeal.cfg0.N) : flagsZero (F := Ideal) (Cert.SparseIdeal.Gen.iblk m c 0 t) := by
  intro k hk
  rw [Cert.SparseIdeal.Array.iblk0]
  have e := congrFun (h c) (ix1 ⟨k.val / 16, by omega⟩)
  rw [fn_apply] at e
  have hq : (⟨k.val / 16 * 16, by omega⟩ : Fin 512) = k := Fin.ext (by show k.val / 16 * 16 = k.val; omega)
  rw [hq] at e
  exact Idealize.ShloMosaic.StableHlo.Predicate.cmpi_eq_iff.mp e

end Cert.SparseIdeal.Pre

end
-- ==== Proof.Sparse.Runs.lean ====
/- What the runs of the outlier kernel's body share: the whole program up to the call, the windows' blocks, the
   frame's post, and everything the runs are stated over (the staging and scratch buffers, the kernel's own
   semaphores, the two arrays it copies itself). -/
module

public import proofs.«01_k».proof.Proof.Gen.Sparse
public import proofs.«01_k».proof.Proof.Gen.Sparse.Frame
public import proofs.«01_k».proof.Proof.Gen.Sparse.Loops
public import proofs.«01_k».proof.Proof.Gen.Sparse.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Sparse.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sparse.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Sparse`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- One staging buffer of output window 5, through which its contents are stated (`View.read_writes_of_cover`: the
    choice does not matter). -/
abbrev VO0_5 : View sig .tc .vmem S256x256 .bf16 := (Memref.whole cc0_stg5_0 : Memref sig .tc .vmem S256x256 .bf16).view
/-- Each window's current staging memref at point `t`, spelled as the pipeline passes it (`bodyAt0`), and its wholeness. -/
abbrev ms0_0 (t : Fin cfg0.N) : Memref sig .tc .smem S512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S160x1x8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x1x2x8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S5120x256 .f32 := Memref.whole cc0_scratch0
abbrev scM0_1 : Memref sig .tc .smem S5121 .i32 := Memref.whole cc0_scratch1
abbrev scM0_2 : Memref sig .tc .smem S1024 .i32 := Memref.whole cc0_scratch2
/-- The operands left in HBM that the body copies into scratch itself, whole. -/
abbrev hbM0_0 : Memref sig .tc .hbm S5121 .i32 := Memref.whole main_arg5
abbrev hbM0_1 : Memref sig .tc .hbm S276480 .i32 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array (`Pipeline.restRefs`). -/
def H0 : Finset (Ref sig .tc) := {main_arg5, main_arg6}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg6)) := by
  rw [BI.bigSep_eq_bigSepL_of_eq [main_arg5, main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg5) ∗ hbPt0 c hbM0_1 (V m c main_arg6))) := by
  rw [Pipeline.ΦD_eq, scopedRest0_eq, ownSems00_eq, hbmPts0_eq]; simp only [scM0_0, scM0_1, scM0_2, owns_whole]; try rfl

/-- The flag word at one place, as the body reads it. -/
abbrev fw (arg1 : Memref sig .tc .smem S512 .i32) (harg1 : arg1.IsWhole) (x0 : Vec F S512 .i32) {k : Nat}
    (h : ∀ a, (![k] : Fin 1 → Nat) a + S1.size a ≤ S512.size a) : Elt F .i32 :=
  View.readAt (Elt F) arg1.view (Rect.unit (s := S512) ![k] S1.size h).toLoadRect (harg1.unread x0)
    (Shape.Idx.first (smemLoad._proof_2 (Rect.unit (s := S512) ![k] S1.size h) numel1_S1))

end Cert.Sparse.Run

end
-- ==== Proof.Sparse.Tables.lean ====
/-
  The kernel's body where no block overflowed: the run of the tables' branch.
-/
module

public import proofs.«01_k».proof.Proof.Sparse.Runs

@[expose] public section

-- membership in a rectangle of production extents (`View.cover_of_tiled`): the elaborator's structural look
-- recurses once per coordinate of the long axes
set_option maxRecDepth 16384

noncomputable section

namespace Cert.Sparse.Run

open Cert.Sparse.Gen hiding hmain before0_0_of before0_1_of before0_2_of before0_3_of before0_4_of frame_of

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 4692000 in
/-- What the body's stores leave in each output's staging memref, as pieces (last first), WITH the
    proof that on whole staging memrefs — the inputs' at their contents, the other outputs' at
    anything, the scratch buffers at anything, the HBM operands it copies whole at their launch contents `fh·`, its DMA cells at zero and the core's `owes`, the body runs to the continuation holding the inputs' as they were,
    the scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    (hA : Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)
    (hB : ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1)) :
    { L5 : List (View.Piece (Elt F) S256x256 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sparse i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4) K } := by
  refine ⟨?_, fun W K => ?run⟩
  case run =>
    simp only [cc0_sparse_eq_skeleton]; unfold cc0_sparse_skel
    simp only [k0_part177_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part178_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part179_eq_skeleton, k0_part182_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.Sparse.Run

end
-- ==== Proof.Sparse.Overflow.lean ====
/-
  The kernel's body where a table overflowed: the scan of the list of entries, and what follows it. The scan's invariant
  is that the row it carries stays a row of the matrix.
-/
module

public import proofs.«01_k».proof.Proof.Sparse.Runs

@[expose] public section

set_option maxRecDepth 16384

noncomputable section

namespace Cert.Sparse.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sparse.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

instance closedOff_cell (k : Fin k0_t1_loop.trips) : ClosedOff (k0_off3 k) := ⟨![k0_off3 k 0], by funext a; match a with | 0 => rfl⟩
instance closedOff_row (v : BitVec 32) : ClosedOff (k0_off4 v) := ⟨![v.toNat, 0], rfl⟩
instance closedOff_word (v : BitVec 32) : ClosedOff (k0_off2 v) := ⟨![(Scalar.addi (Scalar.minsi v 5119#32) 1#32).toNat], rfl⟩

/-- A row's successor, taken only below the last row, is a row. -/
theorem row_next (r : BitVec 32) (c : BitVec 1) (h : r.toNat ≤ 5119) :
    (Scalar.select (Scalar.andi (Scalar.cmpi .slt r 5119#32) c) (Scalar.addi r 1#32) r).toNat ≤ 5119 := by
  unfold Scalar.select
  split
  · rename_i hc
    have hlt : r.toNat < 5119 := by
      by_contra hn
      have : r = 5119#32 := BitVec.eq_of_toNat_eq (by show r.toNat = 5119; omega)
      subst this
      have h0 : Scalar.cmpi .slt 5119#32 5119#32 = 0#1 := by decide
      rw [h0] at hc
      have : Scalar.andi 0#1 c = 0#1 := by revert c; decide
      rw [this] at hc
      exact absurd hc (by decide)
    have e : (Scalar.addi r 1#32).toNat = r.toNat + 1 := by
      show (r + 1#32).toNat = _
      rw [BitVec.toNat_add]
      exact Nat.mod_eq_of_lt (by show r.toNat + 1 < 2 ^ 32; omega)
    omega
  · exact h

/-- The row pointer after a row lies in the row pointers. -/
theorem word_inb (r : BitVec 32) (h : r.toNat ≤ 5119) : ∀ a, k0_off2 r a + S1.size a ≤ S5121.size a := by
  intro a
  have em : Scalar.minsi r 5119#32 = r := by
    show (if r.slt 5119#32 then r else 5119#32) = r
    split
    · rfl
    · rename_i hn
      refine BitVec.eq_of_toNat_eq ?_
      show 5119 = r.toNat
      by_contra hne
      apply hn
      have hr : r.toInt = (r.toNat : Int) := BitVec.toInt_eq_toNat_of_lt (by omega)
      rw [BitVec.slt, hr]
      exact decide_eq_true (by show (r.toNat : Int) < 5119; omega)
  have e : k0_off2 r = ![(Scalar.addi (Scalar.minsi r 5119#32) 1#32).toNat] := rfl
  have e1 : (Scalar.addi r 1#32).toNat = r.toNat + 1 := by
    show (r + 1#32).toNat = _
    rw [BitVec.toNat_add]
    exact Nat.mod_eq_of_lt (by show r.toNat + 1 < 2 ^ 32; omega)
  rw [e, em, e1]
  match a with
  | 0 => show r.toNat + 1 + 1 ≤ 5121; omega

/-- A row lies in the matrix. -/
theorem row_inb (r : BitVec 32) (h : r.toNat ≤ 5119) : ∀ a, k0_off4 r a + S1x256.size a ≤ S5120x256.size a := by
  intro a
  have e : k0_off4 r = ![r.toNat, 0] := rfl
  rw [e]
  match a with
  | 0 => show r.toNat + 1 ≤ 5120; omega
  | 1 => show 0 + 256 ≤ 256; omega

set_option warn.classDefReducibility false in
/-- The search for an entry's row: the row carried stays a row, the row pointers are read. -/
@[sl_loop] def loopInv2 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg6 : Memref sig .tc .hbm S5121 .i32) (harg6 : arg6.IsWhole) (arg7 : Memref sig .tc .hbm S276480 .i32) (harg7 : arg7.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole) (arg12 : DmaSems sig S_) (arg13 : DmaSems sig S_) (arg0 : BitVec 32) (v0 : Elt F .i32) (v1 : Elt F .i32) (v2 : Elt F .i32) (v3 : Elt F .i32) (v4 : Elt F .i32) (v5 : Elt F .i32) (v6 : Elt F .i32) (v7 : Elt F .i32) (v8 : Elt F .i32) (v9 : Elt F .i32) (v10 : Elt F .i32) (v11 : Elt F .i32) (v12 : Elt F .i32) (v13 : Elt F .i32) (v14 : Elt F .i32) (v15 : Elt F .i32) (v16 : Elt F .i32) (v17 : Elt F .i32) (v18 : Elt F .i32) (v19 : Elt F .i32) (v20 : Elt F .i32) (v21 : Elt F .i32) (v22 : Elt F .i32) (v23 : Elt F .i32) (v24 : Elt F .i32) (v25 : Elt F .i32) (v26 : Elt F .i32) (v27 : Elt F .i32) (v28 : Elt F .i32) (v29 : Elt F .i32) (v30 : Elt F .i32) (v31 : Elt F .i32) (k0_h2 : k0_cond2 v0 v1 v2 v3 v4 v5 v6 v7 v8 v9 v10 v11 v12 v13 v14 v15 v16 v17 v18 v19 v20 v21 v22 v23 v24 v25 v26 v27 v28 v29 v30 v31 = 1#1) (c0_i32_6 : BitVec 32) (c1_i32_7 : BitVec 32) (k0_t1 : Fin k0_t1_loop.trips) (arg15 : BitVec 32) (arg14 : BitVec 32) (init : BitVec 32) (g : Buf (Elt F) (arg10.view.loc (c : Thread nD τ))) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 arg13 arg0 v0 v1 v2 v3 v4 v5 v6 v7 v8 v9 v10 v11 v12 v13 v14 v15 v16 v17 v18 v19 v20 v21 v22 v23 v24 v25 v26 v27 v28 v29 v30 v31 k0_h2 c0_i32_6 c1_i32_7 k0_t1 arg15 arg14 init where
  inv k r := iprop(⌜r.toNat ≤ 5119⌝ ∗ arg10.view.loc (c : Thread nD τ) ↦[arg10.view.set]{fullShare} g)
  step k r := by
    unfold k0_t2_body
    iintro ⟨%h, H10⟩
    have hw : k0_chk1 v0 v1 v2 v3 v4 v5 v6 v7 v8 v9 v10 v11 v12 v13 v14 v15 v16 v17 v18 v19 v20 v21 v22 v23 v24 v25 v26 v27 v28 v29 v30 v31 r := fun _ => word_inb r h
    sl_exec
    sl_step
    isplitr
    · ipureintro; exact row_next _ _ h
    · iexact H10

set_option warn.classDefReducibility false in
/-- The scan of the entries: each is read through the buffer its block was copied to, and its row's entry rewritten. -/
@[sl_loop] def loopInv1 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole) (arg0 : BitVec 32) (v0 : Elt F .i32) (v1 : Elt F .i32) (v2 : Elt F .i32) (v3 : Elt F .i32) (v4 : Elt F .i32) (v5 : Elt F .i32) (v6 : Elt F .i32) (v7 : Elt F .i32) (v8 : Elt F .i32) (v9 : Elt F .i32) (v10 : Elt F .i32) (v11 : Elt F .i32) (v12 : Elt F .i32) (v13 : Elt F .i32) (v14 : Elt F .i32) (v15 : Elt F .i32) (v16 : Elt F .i32) (v17 : Elt F .i32) (v18 : Elt F .i32) (v19 : Elt F .i32) (v20 : Elt F .i32) (v21 : Elt F .i32) (v22 : Elt F .i32) (v23 : Elt F .i32) (v24 : Elt F .i32) (v25 : Elt F .i32) (v26 : Elt F .i32) (v27 : Elt F .i32) (v28 : Elt F .i32) (v29 : Elt F .i32) (v30 : Elt F .i32) (v31 : Elt F .i32) (k0_h2 : k0_cond2 v0 v1 v2 v3 v4 v5 v6 v7 v8 v9 v10 v11 v12 v13 v14 v15 v16 v17 v18 v19 v20 v21 v22 v23 v24 v25 v26 v27 v28 v29 v30 v31 = 1#1) (init : BitVec 32) (fh1 : HbBuf0 (F := F) c hbM0_1) (g : Buf (Elt F) (arg10.view.loc (c : Thread nD τ))) :
    LoopInvTy_k0_t1 (F := F) Unit ℕ (Pipeline.UD sig nD τ) ℕ Variants.none c none Set.univ i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4 arg0 v0 v1 v2 v3 v4 v5 v6 v7 v8 v9 v10 v11 v12 v13 v14 v15 v16 v17 v18 v19 v20 v21 v22 v23 v24 v25 v26 v27 v28 v29 v30 v31 k0_h2 init where
  inv k r := iprop(⌜r.toNat ≤ 5119⌝ ∗ (arg10.view.loc (c : Thread nD τ) ↦[arg10.view.set]{fullShare} g) ∗ (∃ f, arg9.view.loc (c : Thread nD τ) ↦[arg9.view.set]{fullShare} f)
    ∗ (∃ f, arg11.view.loc (c : Thread nD τ) ↦[arg11.view.set]{fullShare} f) ∗ semVal ((c : Thread nD τ), SemLoc.dma 10) 0 ∗ hbPt0 c hbM0_1 fh1 ∗ ∃ W, owes (c : Thread nD τ) 0 W)
  step k r := by
    unfold k0_t1_body
    simp only [k0_part180_eq_skeleton]
    iintro ⟨%h, H10, ⟨%f9, H9⟩, ⟨%f11, H11⟩, Hq0, Hh1, ⟨%W, HW⟩⟩
    have hw : ∀ r' : BitVec 32, r'.toNat ≤ 5119 → ∀ w, k0_chk2 i v0 v1 v2 v3 v4 v5 v6 v7 v8 v9 v10 v11 v12 v13 v14 v15 v16 v17 v18 v19 v20 v21 v22 v23 v24 v25 v26 v27 v28 v29 v30 v31 r' w := fun r' h' w _ _ => row_inb r' h'
    by_cases h3 : k0_cond3 k = 1#1
    · sl_exec
      sl_step
      isplitr
      · ipureintro; assumption
      isplitl [H10]; · iexact H10
      isplitl [H9]; · iexists _; iexact H9
      isplitl [H11]; · iexists _; iexact H11
      isplitl [Hq0]; · iexact Hq0
      isplitl [Hh1]; · iexact Hh1
      iexists _; iexact HW
    · sl_exec
      sl_step
      isplitr
      · ipureintro; assumption
      isplitl [H10]; · iexact H10
      isplitl [H9]; · iexists _; iexact H9
      isplitl [H11]; · iexists _; iexact H11
      isplitl [Hq0]; · iexact Hq0
      isplitl [Hh1]; · iexact Hh1
      iexists _; iexact HW

end Cert.Sparse.Run

end
-- ==== Proof.Sparse.OverflowRun.lean ====
/-
  The kernel's body where a table overflowed, whole: the scan of the entries, then the products.
-/
module

public import proofs.«01_k».proof.Proof.Sparse.Overflow

@[expose] public section

set_option maxRecDepth 16384

noncomputable section

namespace Cert.Sparse.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sparse.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

/-- Where a table overflowed, the body runs: from its staging buffers, its scratch, its semaphores at zero and the arrays
    it copies from, to the same, the output's buffer and the scratch left at some contents. -/
theorem kernelRun0_B (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    (hA : ¬ (Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)) (hB : k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sparse i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4) K := by
    intro W K
    simp only [cc0_sparse_eq_skeleton]; unfold cc0_sparse_skel
    simp only [k0_part182_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.Sparse.Run

end
-- ==== Proof.Sparse.Frame.lean ====
/-
  The frame of the outlier call: from any memory with all counters at zero it terminates, its arguments unchanged and the
  counters at zero, whatever the flags and the entries hold. Nothing is said here of the output's contents.
-/
module

public import proofs.«01_k».proof.Proof.Sparse.Tables
public import proofs.«01_k».proof.Proof.Sparse.OverflowRun
public import Idealize.ShloMosaic.Lib.Claim

@[expose] public section

set_option maxRecDepth 16384

noncomputable section

namespace Cert.Sparse.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sparse.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The two branches' conditions on one word: it is zero, or it is not. -/
theorem cond_zero : Scalar.cmpi .ne (Scalar.extui (Scalar.cmpi .eq 0#32 0#32)) 0#32 = 1#1 := by decide
theorem cond_ne (v : BitVec 32) (h : v ≠ 0#32) :
    Scalar.cmpi .ne (Scalar.extui (Scalar.cmpi .ne v 0#32)) 0#32 = 1#1 := by
  have e : Scalar.cmpi .ne v 0#32 = 1#1 := by
    show BitVec.ofBool (v != 0#32) = 1#1
    rw [bne_iff_ne.mpr h]; rfl
  rw [e]; decide

/-- The body at any flags: where all are zero by the tables, else by the scan. Its output's buffer ends at some contents. -/
theorem kernelRun0 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sparse i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4) K := by
    intro W K
    by_cases h0 : (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) = 0#32
    · have hA : Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1 := by rw [h0]; exact cond_zero
      have hB : ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1) := by
        show ¬ (Scalar.cmpi .ne (Scalar.extui (Scalar.cmpi .ne (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)
        rw [h0]; decide
      iintro ⟨H0, H1, H2, H3, H4, H5, HS0, HS1, HS2, Hq0, Hq1, Hh0, Hh1, HW, Hk⟩
      iapply ((kernelRun0_A c i arg1 harg1 arg2 harg2 arg3 harg3 arg4 harg4 arg5 harg5 arg8 harg8 arg9 harg9 arg10 harg10 arg11 harg11 x0 x1 x2 x3 x4 fh0 fh1 hA hB).2 W K)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, ⟨%e5, H5⟩, HS0, HS1, HS2, Hq0, Hq1, Hh0, Hh1, HW'⟩
      iapply Hk
      isplitl [H0]; · iexact H0
      isplitl [H1]; · iexact H1
      isplitl [H2]; · iexact H2
      isplitl [H3]; · iexact H3
      isplitl [H4]; · iexact H4
      isplitl [H5]
      · unfold owns; iexists _, _; isplitr; swap; · iexact H5
        ipureintro; rfl
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [Hh1]; · iexact Hh1
      iexact HW'
    · have hA : ¬ (Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1) := by
        have e : Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32 = 0#1 := by
          show BitVec.ofBool ((Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) == 0#32) = 0#1
          rw [beq_eq_false_iff_ne.mpr h0]; rfl
        rw [e]; decide
      have hB : k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1 := cond_ne _ h0
      exact kernelRun0_B c i arg1 harg1 arg2 harg2 arg3 harg3 arg4 harg4 arg5 harg5 arg8 harg8 arg9 harg9 arg10 harg10 arg11 harg11 x0 x1 x2 x3 x4 fh0 fh1 hA hB W K

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ _ _ _ _ _ _ (iblk m c 0 t) (iblk m c 1 t) (iblk m c 2 t) (iblk m c 3 t) (iblk m c 4 t) (V m c main_arg5) (V m c main_arg6)) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, HS0, HS1, HS2, Hq0, Hq1, Hh0, Hh1, ⟨%W', HW'⟩⟩
  isplitl [HS0 HS1 HS2 Hg Hq0 Hq1 Hh0 Hh1]
  · isplitl [HS0 HS1 HS2]
    · isplitl [HS0]; · iexact HS0
      isplitl [HS1]; · iexact HS1
      iexact HS2
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_Sparse`, Defs.lean, at any `F`). -/
theorem frame_of_forget (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- THE FRAME: `Cert.quiescent_Sparse`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Sparse.Run

end
-- ==== Proof.SparseIdeal.Overflow.lean ====
/-
  The kernel's body where a table overflowed: the scan of the list of entries, and what follows it. The scan's invariant
  is that the row it carries stays a row of the matrix.
-/
module

public import proofs.«01_k».proof.Proof.SparseIdeal.Runs

@[expose] public section

set_option maxRecDepth 16384

noncomputable section

namespace Cert.SparseIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SparseIdeal.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

instance closedOff_cell (k : Fin k0_t1_loop.trips) : ClosedOff (k0_off3 k) := ⟨![k0_off3 k 0], by funext a; match a with | 0 => rfl⟩
instance closedOff_row (v : BitVec 32) : ClosedOff (k0_off4 v) := ⟨![v.toNat, 0], rfl⟩
instance closedOff_word (v : BitVec 32) : ClosedOff (k0_off2 v) := ⟨![(Scalar.addi (Scalar.minsi v 5119#32) 1#32).toNat], rfl⟩

/-- A row's successor, taken only below the last row, is a row. -/
theorem row_next (r : BitVec 32) (c : BitVec 1) (h : r.toNat ≤ 5119) :
    (Scalar.select (Scalar.andi (Scalar.cmpi .slt r 5119#32) c) (Scalar.addi r 1#32) r).toNat ≤ 5119 := by
  unfold Scalar.select
  split
  · rename_i hc
    have hlt : r.toNat < 5119 := by
      by_contra hn
      have : r = 5119#32 := BitVec.eq_of_toNat_eq (by show r.toNat = 5119; omega)
      subst this
      have h0 : Scalar.cmpi .slt 5119#32 5119#32 = 0#1 := by decide
      rw [h0] at hc
      have : Scalar.andi 0#1 c = 0#1 := by revert c; decide
      rw [this] at hc
      exact absurd hc (by decide)
    have e : (Scalar.addi r 1#32).toNat = r.toNat + 1 := by
      show (r + 1#32).toNat = _
      rw [BitVec.toNat_add]
      exact Nat.mod_eq_of_lt (by show r.toNat + 1 < 2 ^ 32; omega)
    omega
  · exact h

/-- The row pointer after a row lies in the row pointers. -/
theorem word_inb (r : BitVec 32) (h : r.toNat ≤ 5119) : ∀ a, k0_off2 r a + S1.size a ≤ S5121.size a := by
  intro a
  have em : Scalar.minsi r 5119#32 = r := by
    show (if r.slt 5119#32 then r else 5119#32) = r
    split
    · rfl
    · rename_i hn
      refine BitVec.eq_of_toNat_eq ?_
      show 5119 = r.toNat
      by_contra hne
      apply hn
      have hr : r.toInt = (r.toNat : Int) := BitVec.toInt_eq_toNat_of_lt (by omega)
      rw [BitVec.slt, hr]
      exact decide_eq_true (by show (r.toNat : Int) < 5119; omega)
  have e : k0_off2 r = ![(Scalar.addi (Scalar.minsi r 5119#32) 1#32).toNat] := rfl
  have e1 : (Scalar.addi r 1#32).toNat = r.toNat + 1 := by
    show (r + 1#32).toNat = _
    rw [BitVec.toNat_add]
    exact Nat.mod_eq_of_lt (by show r.toNat + 1 < 2 ^ 32; omega)
  rw [e, em, e1]
  match a with
  | 0 => show r.toNat + 1 + 1 ≤ 5121; omega

/-- A row lies in the matrix. -/
theorem row_inb (r : BitVec 32) (h : r.toNat ≤ 5119) : ∀ a, k0_off4 r a + S1x256.size a ≤ S5120x256.size a := by
  intro a
  have e : k0_off4 r = ![r.toNat, 0] := rfl
  rw [e]
  match a with
  | 0 => show r.toNat + 1 ≤ 5120; omega
  | 1 => show 0 + 256 ≤ 256; omega

set_option warn.classDefReducibility false in
/-- The search for an entry's row: the row carried stays a row, the row pointers are read. -/
@[sl_loop] def loopInv2 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg6 : Memref sig .tc .hbm S5121 .i32) (harg6 : arg6.IsWhole) (arg7 : Memref sig .tc .hbm S276480 .i32) (harg7 : arg7.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole) (arg12 : DmaSems sig S_) (arg13 : DmaSems sig S_) (arg0 : BitVec 32) (v0 : Elt F .i32) (v1 : Elt F .i32) (v2 : Elt F .i32) (v3 : Elt F .i32) (v4 : Elt F .i32) (v5 : Elt F .i32) (v6 : Elt F .i32) (v7 : Elt F .i32) (v8 : Elt F .i32) (v9 : Elt F .i32) (v10 : Elt F .i32) (v11 : Elt F .i32) (v12 : Elt F .i32) (v13 : Elt F .i32) (v14 : Elt F .i32) (v15 : Elt F .i32) (v16 : Elt F .i32) (v17 : Elt F .i32) (v18 : Elt F .i32) (v19 : Elt F .i32) (v20 : Elt F .i32) (v21 : Elt F .i32) (v22 : Elt F .i32) (v23 : Elt F .i32) (v24 : Elt F .i32) (v25 : Elt F .i32) (v26 : Elt F .i32) (v27 : Elt F .i32) (v28 : Elt F .i32) (v29 : Elt F .i32) (v30 : Elt F .i32) (v31 : Elt F .i32) (k0_h2 : k0_cond2 v0 v1 v2 v3 v4 v5 v6 v7 v8 v9 v10 v11 v12 v13 v14 v15 v16 v17 v18 v19 v20 v21 v22 v23 v24 v25 v26 v27 v28 v29 v30 v31 = 1#1) (c0_i32_6 : BitVec 32) (c1_i32_7 : BitVec 32) (k0_t1 : Fin k0_t1_loop.trips) (arg15 : BitVec 32) (arg14 : BitVec 32) (init : BitVec 32) (g : Buf (Elt F) (arg10.view.loc (c : Thread nD τ))) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 arg13 arg0 v0 v1 v2 v3 v4 v5 v6 v7 v8 v9 v10 v11 v12 v13 v14 v15 v16 v17 v18 v19 v20 v21 v22 v23 v24 v25 v26 v27 v28 v29 v30 v31 k0_h2 c0_i32_6 c1_i32_7 k0_t1 arg15 arg14 init where
  inv k r := iprop(⌜r.toNat ≤ 5119⌝ ∗ arg10.view.loc (c : Thread nD τ) ↦[arg10.view.set]{fullShare} g)
  step k r := by
    unfold k0_t2_body
    iintro ⟨%h, H10⟩
    have hw : k0_chk1 v0 v1 v2 v3 v4 v5 v6 v7 v8 v9 v10 v11 v12 v13 v14 v15 v16 v17 v18 v19 v20 v21 v22 v23 v24 v25 v26 v27 v28 v29 v30 v31 r := fun _ => word_inb r h
    sl_exec
    sl_step
    isplitr
    · ipureintro; exact row_next _ _ h
    · iexact H10

set_option warn.classDefReducibility false in
/-- The scan of the entries: each is read through the buffer its block was copied to, and its row's entry rewritten. -/
@[sl_loop] def loopInv1 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole) (arg0 : BitVec 32) (v0 : Elt F .i32) (v1 : Elt F .i32) (v2 : Elt F .i32) (v3 : Elt F .i32) (v4 : Elt F .i32) (v5 : Elt F .i32) (v6 : Elt F .i32) (v7 : Elt F .i32) (v8 : Elt F .i32) (v9 : Elt F .i32) (v10 : Elt F .i32) (v11 : Elt F .i32) (v12 : Elt F .i32) (v13 : Elt F .i32) (v14 : Elt F .i32) (v15 : Elt F .i32) (v16 : Elt F .i32) (v17 : Elt F .i32) (v18 : Elt F .i32) (v19 : Elt F .i32) (v20 : Elt F .i32) (v21 : Elt F .i32) (v22 : Elt F .i32) (v23 : Elt F .i32) (v24 : Elt F .i32) (v25 : Elt F .i32) (v26 : Elt F .i32) (v27 : Elt F .i32) (v28 : Elt F .i32) (v29 : Elt F .i32) (v30 : Elt F .i32) (v31 : Elt F .i32) (k0_h2 : k0_cond2 v0 v1 v2 v3 v4 v5 v6 v7 v8 v9 v10 v11 v12 v13 v14 v15 v16 v17 v18 v19 v20 v21 v22 v23 v24 v25 v26 v27 v28 v29 v30 v31 = 1#1) (init : BitVec 32) (fh1 : HbBuf0 (F := F) c hbM0_1) (g : Buf (Elt F) (arg10.view.loc (c : Thread nD τ))) :
    LoopInvTy_k0_t1 (F := F) Unit ℕ (Pipeline.UD sig nD τ) ℕ Variants.none c none Set.univ i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4 arg0 v0 v1 v2 v3 v4 v5 v6 v7 v8 v9 v10 v11 v12 v13 v14 v15 v16 v17 v18 v19 v20 v21 v22 v23 v24 v25 v26 v27 v28 v29 v30 v31 k0_h2 init where
  inv k r := iprop(⌜r.toNat ≤ 5119⌝ ∗ (arg10.view.loc (c : Thread nD τ) ↦[arg10.view.set]{fullShare} g) ∗ (∃ f, arg9.view.loc (c : Thread nD τ) ↦[arg9.view.set]{fullShare} f)
    ∗ (∃ f, arg11.view.loc (c : Thread nD τ) ↦[arg11.view.set]{fullShare} f) ∗ semVal ((c : Thread nD τ), SemLoc.dma 10) 0 ∗ hbPt0 c hbM0_1 fh1 ∗ ∃ W, owes (c : Thread nD τ) 0 W)
  step k r := by
    unfold k0_t1_body
    simp only [k0_part180_eq_skeleton]
    iintro ⟨%h, H10, ⟨%f9, H9⟩, ⟨%f11, H11⟩, Hq0, Hh1, ⟨%W, HW⟩⟩
    have hw : ∀ r' : BitVec 32, r'.toNat ≤ 5119 → ∀ w, k0_chk2 i v0 v1 v2 v3 v4 v5 v6 v7 v8 v9 v10 v11 v12 v13 v14 v15 v16 v17 v18 v19 v20 v21 v22 v23 v24 v25 v26 v27 v28 v29 v30 v31 r' w := fun r' h' w _ _ => row_inb r' h'
    by_cases h3 : k0_cond3 k = 1#1
    · sl_exec
      sl_step
      isplitr
      · ipureintro; assumption
      isplitl [H10]; · iexact H10
      isplitl [H9]; · iexists _; iexact H9
      isplitl [H11]; · iexists _; iexact H11
      isplitl [Hq0]; · iexact Hq0
      isplitl [Hh1]; · iexact Hh1
      iexists _; iexact HW
    · sl_exec
      sl_step
      isplitr
      · ipureintro; assumption
      isplitl [H10]; · iexact H10
      isplitl [H9]; · iexists _; iexact H9
      isplitl [H11]; · iexists _; iexact H11
      isplitl [Hq0]; · iexact Hq0
      isplitl [Hh1]; · iexact Hh1
      iexists _; iexact HW

end Cert.SparseIdeal.Run

end
-- ==== Proof.SparseIdeal.OverflowRun.lean ====
/-
  The kernel's body where a table overflowed, whole: the scan of the entries, then the products.
-/
module

public import proofs.«01_k».proof.Proof.SparseIdeal.Overflow

@[expose] public section

set_option maxRecDepth 16384

noncomputable section

namespace Cert.SparseIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SparseIdeal.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

/-- Where a table overflowed, the body runs: from its staging buffers, its scratch, its semaphores at zero and the arrays
    it copies from, to the same, the output's buffer and the scratch left at some contents. -/
theorem kernelRun0_B (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    (hA : ¬ (Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)) (hB : k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sparse i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4) K := by
    intro W K
    simp only [cc0_sparse_eq_skeleton]; unfold cc0_sparse_skel
    simp only [k0_part182_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.SparseIdeal.Run

end
-- ==== Proof.SparseIdeal.Frame.lean ====
/-
  The frame of the outlier call: from any memory with all counters at zero it terminates, its arguments unchanged and the
  counters at zero, whatever the flags and the entries hold. Nothing is said here of the output's contents.
-/
module

public import proofs.«01_k».proof.Proof.SparseIdeal.Tables
public import proofs.«01_k».proof.Proof.SparseIdeal.OverflowRun
public import Idealize.ShloMosaic.Lib.Claim

@[expose] public section

set_option maxRecDepth 16384

noncomputable section

namespace Cert.SparseIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SparseIdeal.Gen hiding hmain before0_0_of before0_1_of before0_2_of before0_3_of before0_4_of frame_of
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The two branches' conditions on one word: it is zero, or it is not. -/
theorem cond_zero : Scalar.cmpi .ne (Scalar.extui (Scalar.cmpi .eq 0#32 0#32)) 0#32 = 1#1 := by decide
theorem cond_ne (v : BitVec 32) (h : v ≠ 0#32) :
    Scalar.cmpi .ne (Scalar.extui (Scalar.cmpi .ne v 0#32)) 0#32 = 1#1 := by
  have e : Scalar.cmpi .ne v 0#32 = 1#1 := by
    show BitVec.ofBool (v != 0#32) = 1#1
    rw [bne_iff_ne.mpr h]; rfl
  rw [e]; decide

/-- The body at any flags: where all are zero by the tables, else by the scan. Its output's buffer ends at some contents. -/
theorem kernelRun0 (c : Dev nD) (i : grid0.Coords) (arg1 : Memref sig .tc .smem S512 .i32) (harg1 : arg1.IsWhole) (arg2 : Memref sig .tc .vmem S256x5120 .bf16) (harg2 : arg2.IsWhole) (arg3 : Memref sig .tc .vmem S160x1x8x128 .i32) (harg3 : arg3.IsWhole) (arg4 : Memref sig .tc .vmem S160x1x2x8x128 .i32) (harg4 : arg4.IsWhole) (arg5 : Memref sig .tc .vmem S256x256 .f32) (harg5 : arg5.IsWhole) (arg8 : Memref sig .tc .vmem S256x256 .bf16) (harg8 : arg8.IsWhole) (arg9 : Memref sig .tc .vmem S5120x256 .f32) (harg9 : arg9.IsWhole) (arg10 : Memref sig .tc .smem S5121 .i32) (harg10 : arg10.IsWhole) (arg11 : Memref sig .tc .smem S1024 .i32) (harg11 : arg11.IsWhole)
    (x0 : Vec F S512 .i32) (x1 : Vec F S256x5120 .bf16) (x2 : Vec F S160x1x8x128 .i32) (x3 : Vec F S160x1x2x8x128 .i32) (x4 : Vec F S256x256 .f32) (fh0 : HbBuf0 (F := F) c hbM0_0) (fh1 : HbBuf0 (F := F) c hbM0_1)
    :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sparse i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 cc0_scratch3 cc0_scratch4) K := by
    intro W K
    by_cases h0 : (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) = 0#32
    · have hA : Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1 := by rw [h0]; exact cond_zero
      have hB : ¬ (k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1) := by
        show ¬ (Scalar.cmpi .ne (Scalar.extui (Scalar.cmpi .ne (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1)
        rw [h0]; decide
      iintro ⟨H0, H1, H2, H3, H4, H5, HS0, HS1, HS2, Hq0, Hq1, Hh0, Hh1, HW, Hk⟩
      iapply ((kernelRun0_A c i arg1 harg1 arg2 harg2 arg3 harg3 arg4 harg4 arg5 harg5 arg8 harg8 arg9 harg9 arg10 harg10 arg11 harg11 x0 x1 x2 x3 x4 fh0 fh1 hA hB).2 W K)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, ⟨%e5, H5⟩, HS0, HS1, HS2, Hq0, Hq1, Hh0, Hh1, HW'⟩
      iapply Hk
      isplitl [H0]; · iexact H0
      isplitl [H1]; · iexact H1
      isplitl [H2]; · iexact H2
      isplitl [H3]; · iexact H3
      isplitl [H4]; · iexact H4
      isplitl [H5]
      · unfold owns; iexists _, _; isplitr; swap; · iexact H5
        ipureintro; rfl
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [Hh1]; · iexact Hh1
      iexact HW'
    · have hA : ¬ (Scalar.cmpi .ne (Scalar.extui (Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32)) 0#32 = 1#1) := by
        have e : Scalar.cmpi .eq (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) 0#32 = 0#1 := by
          show BitVec.ofBool ((Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (fw arg1 harg1 x0 inb_S512_S1_0) (fw arg1 harg1 x0 inb_S512_S1_16)) (fw arg1 harg1 x0 inb_S512_S1_32)) (fw arg1 harg1 x0 inb_S512_S1_48)) (fw arg1 harg1 x0 inb_S512_S1_64)) (fw arg1 harg1 x0 inb_S512_S1_80)) (fw arg1 harg1 x0 inb_S512_S1_96)) (fw arg1 harg1 x0 inb_S512_S1_112)) (fw arg1 harg1 x0 inb_S512_S1_128)) (fw arg1 harg1 x0 inb_S512_S1_144)) (fw arg1 harg1 x0 inb_S512_S1_160)) (fw arg1 harg1 x0 inb_S512_S1_176)) (fw arg1 harg1 x0 inb_S512_S1_192)) (fw arg1 harg1 x0 inb_S512_S1_208)) (fw arg1 harg1 x0 inb_S512_S1_224)) (fw arg1 harg1 x0 inb_S512_S1_240)) (fw arg1 harg1 x0 inb_S512_S1_256)) (fw arg1 harg1 x0 inb_S512_S1_272)) (fw arg1 harg1 x0 inb_S512_S1_288)) (fw arg1 harg1 x0 inb_S512_S1_304)) (fw arg1 harg1 x0 inb_S512_S1_320)) (fw arg1 harg1 x0 inb_S512_S1_336)) (fw arg1 harg1 x0 inb_S512_S1_352)) (fw arg1 harg1 x0 inb_S512_S1_368)) (fw arg1 harg1 x0 inb_S512_S1_384)) (fw arg1 harg1 x0 inb_S512_S1_400)) (fw arg1 harg1 x0 inb_S512_S1_416)) (fw arg1 harg1 x0 inb_S512_S1_432)) (fw arg1 harg1 x0 inb_S512_S1_448)) (fw arg1 harg1 x0 inb_S512_S1_464)) (fw arg1 harg1 x0 inb_S512_S1_480)) (fw arg1 harg1 x0 inb_S512_S1_496)) == 0#32) = 0#1
          rw [beq_eq_false_iff_ne.mpr h0]; rfl
        rw [e]; decide
      have hB : k0_cond2 (fw arg1 harg1 x0 inb_S512_S1_0) (fw arg1 harg1 x0 inb_S512_S1_16) (fw arg1 harg1 x0 inb_S512_S1_32) (fw arg1 harg1 x0 inb_S512_S1_48) (fw arg1 harg1 x0 inb_S512_S1_64) (fw arg1 harg1 x0 inb_S512_S1_80) (fw arg1 harg1 x0 inb_S512_S1_96) (fw arg1 harg1 x0 inb_S512_S1_112) (fw arg1 harg1 x0 inb_S512_S1_128) (fw arg1 harg1 x0 inb_S512_S1_144) (fw arg1 harg1 x0 inb_S512_S1_160) (fw arg1 harg1 x0 inb_S512_S1_176) (fw arg1 harg1 x0 inb_S512_S1_192) (fw arg1 harg1 x0 inb_S512_S1_208) (fw arg1 harg1 x0 inb_S512_S1_224) (fw arg1 harg1 x0 inb_S512_S1_240) (fw arg1 harg1 x0 inb_S512_S1_256) (fw arg1 harg1 x0 inb_S512_S1_272) (fw arg1 harg1 x0 inb_S512_S1_288) (fw arg1 harg1 x0 inb_S512_S1_304) (fw arg1 harg1 x0 inb_S512_S1_320) (fw arg1 harg1 x0 inb_S512_S1_336) (fw arg1 harg1 x0 inb_S512_S1_352) (fw arg1 harg1 x0 inb_S512_S1_368) (fw arg1 harg1 x0 inb_S512_S1_384) (fw arg1 harg1 x0 inb_S512_S1_400) (fw arg1 harg1 x0 inb_S512_S1_416) (fw arg1 harg1 x0 inb_S512_S1_432) (fw arg1 harg1 x0 inb_S512_S1_448) (fw arg1 harg1 x0 inb_S512_S1_464) (fw arg1 harg1 x0 inb_S512_S1_480) (fw arg1 harg1 x0 inb_S512_S1_496) = 1#1 := cond_ne _ h0
      exact kernelRun0_B c i arg1 harg1 arg2 harg2 arg3 harg3 arg4 harg4 arg5 harg5 arg8 harg8 arg9 harg9 arg10 harg10 arg11 harg11 x0 x1 x2 x3 x4 fh0 fh1 hA hB W K

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ _ _ _ _ _ _ (iblk m c 0 t) (iblk m c 1 t) (iblk m c 2 t) (iblk m c 3 t) (iblk m c 4 t) (V m c main_arg5) (V m c main_arg6)) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, HS0, HS1, HS2, Hq0, Hq1, Hh0, Hh1, ⟨%W', HW'⟩⟩
  isplitl [HS0 HS1 HS2 Hg Hq0 Hq1 Hh0 Hh1]
  · isplitl [HS0 HS1 HS2]
    · isplitl [HS0]; · iexact HS0
      isplitl [HS1]; · iexact HS1
      iexact HS2
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_SparseIdeal`, Defs.lean, at any `F`). -/
theorem frame_of_forget (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- THE FRAME: `Cert.quiescent_SparseIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.SparseIdeal.Run

end
-- ==== Proof.lean ====
/-
  The proof of `Cert.Claim` (proofs.«01_k».proof.Defs): the frames of the dense call, of the outlier call and of their
  references, and the equality of each call with its reference over the extended reals.
-/
module

public import proofs.«01_k».proof.Proof.Gen.KernelIdeal.Value
public import proofs.«01_k».proof.Proof.Gen.ReferenceIdeal.Run
public import proofs.«01_k».proof.Proof.DenseRef
public import proofs.«01_k».proof.Proof.SparseRef
public import proofs.«01_k».proof.Proof.SparsePre
public import proofs.«01_k».proof.Proof.Sparse.Frame
public import proofs.«01_k».proof.Proof.SparseIdeal.Frame
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The dense call's reference runs, keeps its arguments and declares no semaphore. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's dense product and the reference's are equal, element by element, over the extended reals. -/
theorem algebraic : Cert.algebraic_KernelIdeal_ReferenceIdeal := by
  intro m ρ m' ρ' _ hagree
  refine ⟨fun c => Cert.KernelIdeal.DenseArray.result m c, Cert.KernelIdeal.DenseArray.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.DenseRef.refTerm _ _ _ _ = Cert.KernelIdeal.DenseArray.result m c
  rw [Cert.ReferenceIdeal.DenseRef.refTerm_eq, (hagree c).1, (hagree c).2.1, (hagree c).2.2.1, (hagree c).2.2.2]

/-- The outlier call's reference runs, keeps its arguments and declares no semaphore, -/
theorem frame_sparse_ref : Cert.quiescent_SparseReferenceIdeal := fun m ρ _ =>
  (θ_run Cert.SparseReferenceIdeal.defs _ _).mono (fun r h => ⟨fun c => (h c).2,
      Idealize.ShloMosaic.sem_eq_zero_of_no_sems (by decide) r.2⟩)
    (Cert.SparseReferenceIdeal.Value.run (F := Ideal) m ρ)

/-- whatever the flags are. -/
theorem frame_sparse_ref_pre : Cert.quiescent_SparseReferenceIdeal_pre_tables_hold := fun m ρ _ => frame_sparse_ref m ρ trivial

/-- Where no table overflowed, the outlier call's result and its reference's are equal, element by element, over the
    extended reals: both are the dense product plus the activations times the decoded outliers. -/
theorem algebraic_sparse : Cert.algebraic_SparseIdeal_SparseReferenceIdeal_pre_tables_hold := by
  intro m ρ m' ρ' hpre hagree
  refine ⟨fun c => Cert.SparseIdeal.Array.result m c, Cert.SparseIdeal.Array.run m ρ (Cert.SparseIdeal.Pre.flags m hpre), ?_⟩
  refine (θ_run Cert.SparseReferenceIdeal.defs _ _).mono (fun _ h c => ⟨(h c).1.trans ?_, (h c).2⟩)
    (Cert.SparseReferenceIdeal.Value.run (F := Ideal) m' ρ')
  show Cert.SparseReferenceIdeal.SparseRef.refTerm _ _ _ _ = Cert.SparseIdeal.Array.result m c
  rw [Cert.SparseReferenceIdeal.SparseRef.refTerm_eq, (hagree c).2.1, (hagree c).2.2.1, (hagree c).2.2.2.1, (hagree c).2.2.2.2.1]

/-- Every claim of the certificate. -/
theorem claim : Cert.Claim := ⟨Cert.Kernel.Gen.facts, Cert.KernelIdeal.Gen.facts, Cert.ReferenceIdeal.Gen.facts,
  Cert.Sparse.Gen.facts, Cert.SparseIdeal.Gen.facts, Cert.SparseReferenceIdeal.Gen.facts, Cert.Pre_tables_hold.Gen.facts,
  fun m ρ _ => Cert.Kernel.Gen.frame m ρ, fun m ρ _ => Cert.KernelIdeal.Gen.frame m ρ, frame_ref,
  fun m ρ _ => Cert.Sparse.Run.frame m ρ, fun m ρ _ => Cert.SparseIdeal.Run.frame m ρ, fun m ρ _ => Cert.SparseIdeal.Run.frame m ρ,
  frame_sparse_ref, frame_sparse_ref_pre, trivial, algebraic, trivial, algebraic_sparse⟩

end Cert.Proof

end
